-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![8, 1024, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x1024 : Shape := ⟨3, ![1, 1024, 1024]⟩
abbrev S1024x1024 : Shape := ⟨2, ![1024, 1024]⟩
abbrev S1024 : Shape := ⟨1, ![1024]⟩
abbrev S32x32x1024 : Shape := ⟨3, ![32, 32, 1024]⟩
abbrev S28 : Shape := ⟨1, ![28]⟩
abbrev S32 : Shape := ⟨1, ![32]⟩
abbrev S_ : Shape := ⟨0, ![]⟩
abbrev S1 : Shape := ⟨1, ![1]⟩
abbrev S1x32x1024 : Shape := ⟨3, ![1, 32, 1024]⟩
abbrev S32x1024 : Shape := ⟨2, ![32, 1024]⟩
abbrev S1x1024 : Shape := ⟨2, ![1, 1024]⟩
abbrev S32x1 : Shape := ⟨2, ![32, 1]⟩

abbrev nBuf : Space → Nat
  | .hbm => 4
  | .vmem => 6
  | .smem => 0
  | _ => 0

abbrev bufTy : (tb : Table) → Fin (tcTables nBuf tb) → BufTy
  | .hbm, ⟨0, _⟩ => ⟨S1x1024x1024, .bf16⟩
  | .hbm, ⟨1, _⟩ => ⟨S1024x1024, .bf16⟩
  | .hbm, ⟨2, _⟩ => ⟨S1024, .bf16⟩
  | .hbm, ⟨3, _⟩ => ⟨S1024x1024, .bf16⟩
  | .local _ .vmem, ⟨0, _⟩ => ⟨S1x1024x1024, .bf16⟩
  | .local _ .vmem, ⟨1, _⟩ => ⟨S1024x1024, .bf16⟩
  | .local _ .vmem, ⟨2, _⟩ => ⟨S1024, .bf16⟩
  | .local _ .vmem, ⟨3, _⟩ => ⟨S1024x1024, .bf16⟩
  | .local _ .vmem, ⟨4, _⟩ => ⟨S1024x1024, .bf16⟩
  | .local _ .vmem, ⟨5, _⟩ => ⟨S32x32x1024, .bf16⟩
  | _, _ => ⟨S1x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 124 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | _ => false

abbrev sig : RefSig :=
  (ofTc nBuf bufTy 1 124 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) (c0_i32_77 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v114 : BitVec 32 := Scalar.addi c0_i32_77 v2
  ![v114.toNat]
def k0_off2 (d0 : Dev nD) (c0_i32_76 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v113 : BitVec 32 := Scalar.addi c0_i32_76 v2
  let c0_i32_81 : BitVec 32 := 0#32
  let c0_i32_82 : BitVec 32 := 0#32
  ![v113.toNat, 0, 0]
def k0_off3 (d0 : Dev nD) (c1_i32_68 : BitVec 32) (c0_i32_75 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v100 : BitVec 32 := Scalar.addi v2 c1_i32_68
  let c8_i32_69 : BitVec 32 := 8#32
  let c0_i32_70 : BitVec 32 := 0#32
  let v101 : BitVec 1 := Scalar.cmpi .eq c8_i32_69 c0_i32_70
  let c1_i32_71 : BitVec 32 := 1#32
  let v102 : BitVec 32 := Scalar.select v101 c1_i32_71 c8_i32_69
  let v103 : BitVec 32 := Scalar.remsi v100 v102
  let c0_i32_73 : BitVec 32 := 0#32
  let v105 : BitVec 1 := Scalar.cmpi .slt v103 c0_i32_73
  let c0_i32_74 : BitVec 32 := 0#32
  let v106 : BitVec 1 := Scalar.cmpi .slt v102 c0_i32_74
  let v107 : BitVec 1 := Scalar.xori v105 v106
  let c0_i32_72 : BitVec 32 := 0#32
  let v104 : BitVec 1 := Scalar.cmpi .ne v103 c0_i32_72
  let v108 : BitVec 1 := Scalar.andi v107 v104
  let v109 : BitVec 32 := Scalar.addi v103 v102
  let v110 : BitVec 32 := Scalar.select v108 v109 v103
  let c128_i32 : BitVec 32 := 128#32
  let v111 : BitVec 32 := Scalar.muli v110 c128_i32
  let v112 : BitVec 32 := Scalar.addi v111 c0_i32_75
  let c0_i32_83 : BitVec 32 := 0#32
  ![v112.toNat, 0]
def k0_dev8 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_68 : BitVec 32 := 1#32
  let v100 : BitVec 32 := Scalar.addi v2 c1_i32_68
  let c8_i32_69 : BitVec 32 := 8#32
  let c0_i32_70 : BitVec 32 := 0#32
  let v101 : BitVec 1 := Scalar.cmpi .eq c8_i32_69 c0_i32_70
  let c1_i32_71 : BitVec 32 := 1#32
  let v102 : BitVec 32 := Scalar.select v101 c1_i32_71 c8_i32_69
  let v103 : BitVec 32 := Scalar.remsi v100 v102
  let c0_i32_73 : BitVec 32 := 0#32
  let v105 : BitVec 1 := Scalar.cmpi .slt v103 c0_i32_73
  let c0_i32_74 : BitVec 32 := 0#32
  let v106 : BitVec 1 := Scalar.cmpi .slt v102 c0_i32_74
  let v107 : BitVec 1 := Scalar.xori v105 v106
  let c0_i32_72 : BitVec 32 := 0#32
  let v104 : BitVec 1 := Scalar.cmpi .ne v103 c0_i32_72
  let v108 : BitVec 1 := Scalar.andi v107 v104
  let v109 : BitVec 32 := Scalar.addi v103 v102
  let v110 : BitVec 32 := Scalar.select v108 v109 v103
  let c1_i32_79 : BitVec 32 := 1#32
  let v115 : BitVec 32 := Scalar.muli v110 c1_i32_79
  let v116 : BitVec 32 := Scalar.addi c0_i32_80 v115
  v116.toNat
def k0_dev9 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_84 : BitVec 32 := 2#32
  let v124 : BitVec 32 := Scalar.addi v2 c2_i32_84
  let c8_i32_85 : BitVec 32 := 8#32
  let c0_i32_86 : BitVec 32 := 0#32
  let v125 : BitVec 1 := Scalar.cmpi .eq c8_i32_85 c0_i32_86
  let c1_i32_87 : BitVec 32 := 1#32
  let v126 : BitVec 32 := Scalar.select v125 c1_i32_87 c8_i32_85
  let v127 : BitVec 32 := Scalar.remsi v124 v126
  let c0_i32_89 : BitVec 32 := 0#32
  let v129 : BitVec 1 := Scalar.cmpi .slt v127 c0_i32_89
  let c0_i32_90 : BitVec 32 := 0#32
  let v130 : BitVec 1 := Scalar.cmpi .slt v126 c0_i32_90
  let v131 : BitVec 1 := Scalar.xori v129 v130
  let c0_i32_88 : BitVec 32 := 0#32
  let v128 : BitVec 1 := Scalar.cmpi .ne v127 c0_i32_88
  let v132 : BitVec 1 := Scalar.andi v131 v128
  let v133 : BitVec 32 := Scalar.addi v127 v126
  let v134 : BitVec 32 := Scalar.select v132 v133 v127
  let c1_i32_96 : BitVec 32 := 1#32
  let v139 : BitVec 32 := Scalar.muli v134 c1_i32_96
  let v140 : BitVec 32 := Scalar.addi c0_i32_97 v139
  v140.toNat
def k0_dev10 (d0 : Dev nD) : Nat :=
  let c0_i32_114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_101 : BitVec 32 := 3#32
  let v148 : BitVec 32 := Scalar.addi v2 c3_i32_101
  let c8_i32_102 : BitVec 32 := 8#32
  let c0_i32_103 : BitVec 32 := 0#32
  let v149 : BitVec 1 := Scalar.cmpi .eq c8_i32_102 c0_i32_103
  let c1_i32_104 : BitVec 32 := 1#32
  let v150 : BitVec 32 := Scalar.select v149 c1_i32_104 c8_i32_102
  let v151 : BitVec 32 := Scalar.remsi v148 v150
  let c0_i32_106 : BitVec 32 := 0#32
  let v153 : BitVec 1 := Scalar.cmpi .slt v151 c0_i32_106
  let c0_i32_107 : BitVec 32 := 0#32
  let v154 : BitVec 1 := Scalar.cmpi .slt v150 c0_i32_107
  let v155 : BitVec 1 := Scalar.xori v153 v154
  let c0_i32_105 : BitVec 32 := 0#32
  let v152 : BitVec 1 := Scalar.cmpi .ne v151 c0_i32_105
  let v156 : BitVec 1 := Scalar.andi v155 v152
  let v157 : BitVec 32 := Scalar.addi v151 v150
  let v158 : BitVec 32 := Scalar.select v156 v157 v151
  let c1_i32_113 : BitVec 32 := 1#32
  let v163 : BitVec 32 := Scalar.muli v158 c1_i32_113
  let v164 : BitVec 32 := Scalar.addi c0_i32_114 v163
  v164.toNat
def k0_dev11 (d0 : Dev nD) : Nat :=
  let c0_i32_131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_118 : BitVec 32 := 4#32
  let v172 : BitVec 32 := Scalar.addi v2 c4_i32_118
  let c8_i32_119 : BitVec 32 := 8#32
  let c0_i32_120 : BitVec 32 := 0#32
  let v173 : BitVec 1 := Scalar.cmpi .eq c8_i32_119 c0_i32_120
  let c1_i32_121 : BitVec 32 := 1#32
  let v174 : BitVec 32 := Scalar.select v173 c1_i32_121 c8_i32_119
  let v175 : BitVec 32 := Scalar.remsi v172 v174
  let c0_i32_123 : BitVec 32 := 0#32
  let v177 : BitVec 1 := Scalar.cmpi .slt v175 c0_i32_123
  let c0_i32_124 : BitVec 32 := 0#32
  let v178 : BitVec 1 := Scalar.cmpi .slt v174 c0_i32_124
  let v179 : BitVec 1 := Scalar.xori v177 v178
  let c0_i32_122 : BitVec 32 := 0#32
  let v176 : BitVec 1 := Scalar.cmpi .ne v175 c0_i32_122
  let v180 : BitVec 1 := Scalar.andi v179 v176
  let v181 : BitVec 32 := Scalar.addi v175 v174
  let v182 : BitVec 32 := Scalar.select v180 v181 v175
  let c1_i32_130 : BitVec 32 := 1#32
  let v187 : BitVec 32 := Scalar.muli v182 c1_i32_130
  let v188 : BitVec 32 := Scalar.addi c0_i32_131 v187
  v188.toNat
def k0_dev12 (d0 : Dev nD) : Nat :=
  let c0_i32_148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_135 : BitVec 32 := 5#32
  let v196 : BitVec 32 := Scalar.addi v2 c5_i32_135
  let c8_i32_136 : BitVec 32 := 8#32
  let c0_i32_137 : BitVec 32 := 0#32
  let v197 : BitVec 1 := Scalar.cmpi .eq c8_i32_136 c0_i32_137
  let c1_i32_138 : BitVec 32 := 1#32
  let v198 : BitVec 32 := Scalar.select v197 c1_i32_138 c8_i32_136
  let v199 : BitVec 32 := Scalar.remsi v196 v198
  let c0_i32_140 : BitVec 32 := 0#32
  let v201 : BitVec 1 := Scalar.cmpi .slt v199 c0_i32_140
  let c0_i32_141 : BitVec 32 := 0#32
  let v202 : BitVec 1 := Scalar.cmpi .slt v198 c0_i32_141
  let v203 : BitVec 1 := Scalar.xori v201 v202
  let c0_i32_139 : BitVec 32 := 0#32
  let v200 : BitVec 1 := Scalar.cmpi .ne v199 c0_i32_139
  let v204 : BitVec 1 := Scalar.andi v203 v200
  let v205 : BitVec 32 := Scalar.addi v199 v198
  let v206 : BitVec 32 := Scalar.select v204 v205 v199
  let c1_i32_147 : BitVec 32 := 1#32
  let v211 : BitVec 32 := Scalar.muli v206 c1_i32_147
  let v212 : BitVec 32 := Scalar.addi c0_i32_148 v211
  v212.toNat
def k0_dev13 (d0 : Dev nD) : Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_152 : BitVec 32 := 6#32
  let v220 : BitVec 32 := Scalar.addi v2 c6_i32_152
  let c8_i32_153 : BitVec 32 := 8#32
  let c0_i32_154 : BitVec 32 := 0#32
  let v221 : BitVec 1 := Scalar.cmpi .eq c8_i32_153 c0_i32_154
  let c1_i32_155 : BitVec 32 := 1#32
  let v222 : BitVec 32 := Scalar.select v221 c1_i32_155 c8_i32_153
  let v223 : BitVec 32 := Scalar.remsi v220 v222
  let c0_i32_157 : BitVec 32 := 0#32
  let v225 : BitVec 1 := Scalar.cmpi .slt v223 c0_i32_157
  let c0_i32_158 : BitVec 32 := 0#32
  let v226 : BitVec 1 := Scalar.cmpi .slt v222 c0_i32_158
  let v227 : BitVec 1 := Scalar.xori v225 v226
  let c0_i32_156 : BitVec 32 := 0#32
  let v224 : BitVec 1 := Scalar.cmpi .ne v223 c0_i32_156
  let v228 : BitVec 1 := Scalar.andi v227 v224
  let v229 : BitVec 32 := Scalar.addi v223 v222
  let v230 : BitVec 32 := Scalar.select v228 v229 v223
  let c1_i32_164 : BitVec 32 := 1#32
  let v235 : BitVec 32 := Scalar.muli v230 c1_i32_164
  let v236 : BitVec 32 := Scalar.addi c0_i32_165 v235
  v236.toNat
def k0_dev14 (d0 : Dev nD) : Nat :=
  let c0_i32_182 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_169 : BitVec 32 := 7#32
  let v244 : BitVec 32 := Scalar.addi v2 c7_i32_169
  let c8_i32_170 : BitVec 32 := 8#32
  let c0_i32_171 : BitVec 32 := 0#32
  let v245 : BitVec 1 := Scalar.cmpi .eq c8_i32_170 c0_i32_171
  let c1_i32_172 : BitVec 32 := 1#32
  let v246 : BitVec 32 := Scalar.select v245 c1_i32_172 c8_i32_170
  let v247 : BitVec 32 := Scalar.remsi v244 v246
  let c0_i32_174 : BitVec 32 := 0#32
  let v249 : BitVec 1 := Scalar.cmpi .slt v247 c0_i32_174
  let c0_i32_175 : BitVec 32 := 0#32
  let v250 : BitVec 1 := Scalar.cmpi .slt v246 c0_i32_175
  let v251 : BitVec 1 := Scalar.xori v249 v250
  let c0_i32_173 : BitVec 32 := 0#32
  let v248 : BitVec 1 := Scalar.cmpi .ne v247 c0_i32_173
  let v252 : BitVec 1 := Scalar.andi v251 v248
  let v253 : BitVec 32 := Scalar.addi v247 v246
  let v254 : BitVec 32 := Scalar.select v252 v253 v247
  let c1_i32_181 : BitVec 32 := 1#32
  let v259 : BitVec 32 := Scalar.muli v254 c1_i32_181
  let v260 : BitVec 32 := Scalar.addi c0_i32_182 v259
  v260.toNat
def k0_dev15 (d0 : Dev nD) : Nat :=
  let c0_i32_198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_186 : BitVec 32 := 1#32
  let v268 : BitVec 32 := Scalar.addi v2 c1_i32_186
  let c8_i32_187 : BitVec 32 := 8#32
  let c0_i32_188 : BitVec 32 := 0#32
  let v269 : BitVec 1 := Scalar.cmpi .eq c8_i32_187 c0_i32_188
  let c1_i32_189 : BitVec 32 := 1#32
  let v270 : BitVec 32 := Scalar.select v269 c1_i32_189 c8_i32_187
  let v271 : BitVec 32 := Scalar.remsi v268 v270
  let c0_i32_191 : BitVec 32 := 0#32
  let v273 : BitVec 1 := Scalar.cmpi .slt v271 c0_i32_191
  let c0_i32_192 : BitVec 32 := 0#32
  let v274 : BitVec 1 := Scalar.cmpi .slt v270 c0_i32_192
  let v275 : BitVec 1 := Scalar.xori v273 v274
  let c0_i32_190 : BitVec 32 := 0#32
  let v272 : BitVec 1 := Scalar.cmpi .ne v271 c0_i32_190
  let v276 : BitVec 1 := Scalar.andi v275 v272
  let v277 : BitVec 32 := Scalar.addi v271 v270
  let v278 : BitVec 32 := Scalar.select v276 v277 v271
  let c1_i32_197 : BitVec 32 := 1#32
  let v283 : BitVec 32 := Scalar.muli v278 c1_i32_197
  let v284 : BitVec 32 := Scalar.addi c0_i32_198 v283
  v284.toNat
def k0_dev16 (d0 : Dev nD) : Nat :=
  let c0_i32_215 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_202 : BitVec 32 := 2#32
  let v292 : BitVec 32 := Scalar.addi v2 c2_i32_202
  let c8_i32_203 : BitVec 32 := 8#32
  let c0_i32_204 : BitVec 32 := 0#32
  let v293 : BitVec 1 := Scalar.cmpi .eq c8_i32_203 c0_i32_204
  let c1_i32_205 : BitVec 32 := 1#32
  let v294 : BitVec 32 := Scalar.select v293 c1_i32_205 c8_i32_203
  let v295 : BitVec 32 := Scalar.remsi v292 v294
  let c0_i32_207 : BitVec 32 := 0#32
  let v297 : BitVec 1 := Scalar.cmpi .slt v295 c0_i32_207
  let c0_i32_208 : BitVec 32 := 0#32
  let v298 : BitVec 1 := Scalar.cmpi .slt v294 c0_i32_208
  let v299 : BitVec 1 := Scalar.xori v297 v298
  let c0_i32_206 : BitVec 32 := 0#32
  let v296 : BitVec 1 := Scalar.cmpi .ne v295 c0_i32_206
  let v300 : BitVec 1 := Scalar.andi v299 v296
  let v301 : BitVec 32 := Scalar.addi v295 v294
  let v302 : BitVec 32 := Scalar.select v300 v301 v295
  let c1_i32_214 : BitVec 32 := 1#32
  let v307 : BitVec 32 := Scalar.muli v302 c1_i32_214
  let v308 : BitVec 32 := Scalar.addi c0_i32_215 v307
  v308.toNat
def k0_dev17 (d0 : Dev nD) : Nat :=
  let c0_i32_231 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_219 : BitVec 32 := 3#32
  let v316 : BitVec 32 := Scalar.addi v2 c3_i32_219
  let c8_i32_220 : BitVec 32 := 8#32
  let c0_i32_221 : BitVec 32 := 0#32
  let v317 : BitVec 1 := Scalar.cmpi .eq c8_i32_220 c0_i32_221
  let c1_i32_222 : BitVec 32 := 1#32
  let v318 : BitVec 32 := Scalar.select v317 c1_i32_222 c8_i32_220
  let v319 : BitVec 32 := Scalar.remsi v316 v318
  let c0_i32_224 : BitVec 32 := 0#32
  let v321 : BitVec 1 := Scalar.cmpi .slt v319 c0_i32_224
  let c0_i32_225 : BitVec 32 := 0#32
  let v322 : BitVec 1 := Scalar.cmpi .slt v318 c0_i32_225
  let v323 : BitVec 1 := Scalar.xori v321 v322
  let c0_i32_223 : BitVec 32 := 0#32
  let v320 : BitVec 1 := Scalar.cmpi .ne v319 c0_i32_223
  let v324 : BitVec 1 := Scalar.andi v323 v320
  let v325 : BitVec 32 := Scalar.addi v319 v318
  let v326 : BitVec 32 := Scalar.select v324 v325 v319
  let c1_i32_230 : BitVec 32 := 1#32
  let v331 : BitVec 32 := Scalar.muli v326 c1_i32_230
  let v332 : BitVec 32 := Scalar.addi c0_i32_231 v331
  v332.toNat
def k0_dev18 (d0 : Dev nD) : Nat :=
  let c0_i32_247 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_235 : BitVec 32 := 4#32
  let v340 : BitVec 32 := Scalar.addi v2 c4_i32_235
  let c8_i32_236 : BitVec 32 := 8#32
  let c0_i32_237 : BitVec 32 := 0#32
  let v341 : BitVec 1 := Scalar.cmpi .eq c8_i32_236 c0_i32_237
  let c1_i32_238 : BitVec 32 := 1#32
  let v342 : BitVec 32 := Scalar.select v341 c1_i32_238 c8_i32_236
  let v343 : BitVec 32 := Scalar.remsi v340 v342
  let c0_i32_240 : BitVec 32 := 0#32
  let v345 : BitVec 1 := Scalar.cmpi .slt v343 c0_i32_240
  let c0_i32_241 : BitVec 32 := 0#32
  let v346 : BitVec 1 := Scalar.cmpi .slt v342 c0_i32_241
  let v347 : BitVec 1 := Scalar.xori v345 v346
  let c0_i32_239 : BitVec 32 := 0#32
  let v344 : BitVec 1 := Scalar.cmpi .ne v343 c0_i32_239
  let v348 : BitVec 1 := Scalar.andi v347 v344
  let v349 : BitVec 32 := Scalar.addi v343 v342
  let v350 : BitVec 32 := Scalar.select v348 v349 v343
  let c1_i32_246 : BitVec 32 := 1#32
  let v355 : BitVec 32 := Scalar.muli v350 c1_i32_246
  let v356 : BitVec 32 := Scalar.addi c0_i32_247 v355
  v356.toNat
def k0_dev19 (d0 : Dev nD) : Nat :=
  let c0_i32_263 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_251 : BitVec 32 := 5#32
  let v364 : BitVec 32 := Scalar.addi v2 c5_i32_251
  let c8_i32_252 : BitVec 32 := 8#32
  let c0_i32_253 : BitVec 32 := 0#32
  let v365 : BitVec 1 := Scalar.cmpi .eq c8_i32_252 c0_i32_253
  let c1_i32_254 : BitVec 32 := 1#32
  let v366 : BitVec 32 := Scalar.select v365 c1_i32_254 c8_i32_252
  let v367 : BitVec 32 := Scalar.remsi v364 v366
  let c0_i32_256 : BitVec 32 := 0#32
  let v369 : BitVec 1 := Scalar.cmpi .slt v367 c0_i32_256
  let c0_i32_257 : BitVec 32 := 0#32
  let v370 : BitVec 1 := Scalar.cmpi .slt v366 c0_i32_257
  let v371 : BitVec 1 := Scalar.xori v369 v370
  let c0_i32_255 : BitVec 32 := 0#32
  let v368 : BitVec 1 := Scalar.cmpi .ne v367 c0_i32_255
  let v372 : BitVec 1 := Scalar.andi v371 v368
  let v373 : BitVec 32 := Scalar.addi v367 v366
  let v374 : BitVec 32 := Scalar.select v372 v373 v367
  let c1_i32_262 : BitVec 32 := 1#32
  let v379 : BitVec 32 := Scalar.muli v374 c1_i32_262
  let v380 : BitVec 32 := Scalar.addi c0_i32_263 v379
  v380.toNat
def k0_dev20 (d0 : Dev nD) : Nat :=
  let c0_i32_279 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_267 : BitVec 32 := 6#32
  let v388 : BitVec 32 := Scalar.addi v2 c6_i32_267
  let c8_i32_268 : BitVec 32 := 8#32
  let c0_i32_269 : BitVec 32 := 0#32
  let v389 : BitVec 1 := Scalar.cmpi .eq c8_i32_268 c0_i32_269
  let c1_i32_270 : BitVec 32 := 1#32
  let v390 : BitVec 32 := Scalar.select v389 c1_i32_270 c8_i32_268
  let v391 : BitVec 32 := Scalar.remsi v388 v390
  let c0_i32_272 : BitVec 32 := 0#32
  let v393 : BitVec 1 := Scalar.cmpi .slt v391 c0_i32_272
  let c0_i32_273 : BitVec 32 := 0#32
  let v394 : BitVec 1 := Scalar.cmpi .slt v390 c0_i32_273
  let v395 : BitVec 1 := Scalar.xori v393 v394
  let c0_i32_271 : BitVec 32 := 0#32
  let v392 : BitVec 1 := Scalar.cmpi .ne v391 c0_i32_271
  let v396 : BitVec 1 := Scalar.andi v395 v392
  let v397 : BitVec 32 := Scalar.addi v391 v390
  let v398 : BitVec 32 := Scalar.select v396 v397 v391
  let c1_i32_278 : BitVec 32 := 1#32
  let v403 : BitVec 32 := Scalar.muli v398 c1_i32_278
  let v404 : BitVec 32 := Scalar.addi c0_i32_279 v403
  v404.toNat
def k0_dev21 (d0 : Dev nD) : Nat :=
  let c0_i32_295 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_283 : BitVec 32 := 7#32
  let v412 : BitVec 32 := Scalar.addi v2 c7_i32_283
  let c8_i32_284 : BitVec 32 := 8#32
  let c0_i32_285 : BitVec 32 := 0#32
  let v413 : BitVec 1 := Scalar.cmpi .eq c8_i32_284 c0_i32_285
  let c1_i32_286 : BitVec 32 := 1#32
  let v414 : BitVec 32 := Scalar.select v413 c1_i32_286 c8_i32_284
  let v415 : BitVec 32 := Scalar.remsi v412 v414
  let c0_i32_288 : BitVec 32 := 0#32
  let v417 : BitVec 1 := Scalar.cmpi .slt v415 c0_i32_288
  let c0_i32_289 : BitVec 32 := 0#32
  let v418 : BitVec 1 := Scalar.cmpi .slt v414 c0_i32_289
  let v419 : BitVec 1 := Scalar.xori v417 v418
  let c0_i32_287 : BitVec 32 := 0#32
  let v416 : BitVec 1 := Scalar.cmpi .ne v415 c0_i32_287
  let v420 : BitVec 1 := Scalar.andi v419 v416
  let v421 : BitVec 32 := Scalar.addi v415 v414
  let v422 : BitVec 32 := Scalar.select v420 v421 v415
  let c1_i32_294 : BitVec 32 := 1#32
  let v427 : BitVec 32 := Scalar.muli v422 c1_i32_294
  let v428 : BitVec 32 := Scalar.addi c0_i32_295 v427
  v428.toNat
def k0_dev22 (d0 : Dev nD) : Nat :=
  let c0_i32_309 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_299 : BitVec 32 := 1#32
  let v436 : BitVec 32 := Scalar.addi v2 c1_i32_299
  let c8_i32_300 : BitVec 32 := 8#32
  let c0_i32_301 : BitVec 32 := 0#32
  let v437 : BitVec 1 := Scalar.cmpi .eq c8_i32_300 c0_i32_301
  let c1_i32_302 : BitVec 32 := 1#32
  let v438 : BitVec 32 := Scalar.select v437 c1_i32_302 c8_i32_300
  let v439 : BitVec 32 := Scalar.remsi v436 v438
  let c0_i32_304 : BitVec 32 := 0#32
  let v441 : BitVec 1 := Scalar.cmpi .slt v439 c0_i32_304
  let c0_i32_305 : BitVec 32 := 0#32
  let v442 : BitVec 1 := Scalar.cmpi .slt v438 c0_i32_305
  let v443 : BitVec 1 := Scalar.xori v441 v442
  let c0_i32_303 : BitVec 32 := 0#32
  let v440 : BitVec 1 := Scalar.cmpi .ne v439 c0_i32_303
  let v444 : BitVec 1 := Scalar.andi v443 v440
  let v445 : BitVec 32 := Scalar.addi v439 v438
  let v446 : BitVec 32 := Scalar.select v444 v445 v439
  let c1_i32_308 : BitVec 32 := 1#32
  let v451 : BitVec 32 := Scalar.muli v446 c1_i32_308
  let v452 : BitVec 32 := Scalar.addi c0_i32_309 v451
  v452.toNat
def k0_dev23 (d0 : Dev nD) : Nat :=
  let c0_i32_325 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_313 : BitVec 32 := 2#32
  let v460 : BitVec 32 := Scalar.addi v2 c2_i32_313
  let c8_i32_314 : BitVec 32 := 8#32
  let c0_i32_315 : BitVec 32 := 0#32
  let v461 : BitVec 1 := Scalar.cmpi .eq c8_i32_314 c0_i32_315
  let c1_i32_316 : BitVec 32 := 1#32
  let v462 : BitVec 32 := Scalar.select v461 c1_i32_316 c8_i32_314
  let v463 : BitVec 32 := Scalar.remsi v460 v462
  let c0_i32_318 : BitVec 32 := 0#32
  let v465 : BitVec 1 := Scalar.cmpi .slt v463 c0_i32_318
  let c0_i32_319 : BitVec 32 := 0#32
  let v466 : BitVec 1 := Scalar.cmpi .slt v462 c0_i32_319
  let v467 : BitVec 1 := Scalar.xori v465 v466
  let c0_i32_317 : BitVec 32 := 0#32
  let v464 : BitVec 1 := Scalar.cmpi .ne v463 c0_i32_317
  let v468 : BitVec 1 := Scalar.andi v467 v464
  let v469 : BitVec 32 := Scalar.addi v463 v462
  let v470 : BitVec 32 := Scalar.select v468 v469 v463
  let c1_i32_324 : BitVec 32 := 1#32
  let v475 : BitVec 32 := Scalar.muli v470 c1_i32_324
  let v476 : BitVec 32 := Scalar.addi c0_i32_325 v475
  v476.toNat
def k0_dev24 (d0 : Dev nD) : Nat :=
  let c0_i32_342 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_329 : BitVec 32 := 3#32
  let v484 : BitVec 32 := Scalar.addi v2 c3_i32_329
  let c8_i32_330 : BitVec 32 := 8#32
  let c0_i32_331 : BitVec 32 := 0#32
  let v485 : BitVec 1 := Scalar.cmpi .eq c8_i32_330 c0_i32_331
  let c1_i32_332 : BitVec 32 := 1#32
  let v486 : BitVec 32 := Scalar.select v485 c1_i32_332 c8_i32_330
  let v487 : BitVec 32 := Scalar.remsi v484 v486
  let c0_i32_334 : BitVec 32 := 0#32
  let v489 : BitVec 1 := Scalar.cmpi .slt v487 c0_i32_334
  let c0_i32_335 : BitVec 32 := 0#32
  let v490 : BitVec 1 := Scalar.cmpi .slt v486 c0_i32_335
  let v491 : BitVec 1 := Scalar.xori v489 v490
  let c0_i32_333 : BitVec 32 := 0#32
  let v488 : BitVec 1 := Scalar.cmpi .ne v487 c0_i32_333
  let v492 : BitVec 1 := Scalar.andi v491 v488
  let v493 : BitVec 32 := Scalar.addi v487 v486
  let v494 : BitVec 32 := Scalar.select v492 v493 v487
  let c1_i32_341 : BitVec 32 := 1#32
  let v499 : BitVec 32 := Scalar.muli v494 c1_i32_341
  let v500 : BitVec 32 := Scalar.addi c0_i32_342 v499
  v500.toNat
def k0_dev25 (d0 : Dev nD) : Nat :=
  let c0_i32_358 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_346 : BitVec 32 := 4#32
  let v508 : BitVec 32 := Scalar.addi v2 c4_i32_346
  let c8_i32_347 : BitVec 32 := 8#32
  let c0_i32_348 : BitVec 32 := 0#32
  let v509 : BitVec 1 := Scalar.cmpi .eq c8_i32_347 c0_i32_348
  let c1_i32_349 : BitVec 32 := 1#32
  let v510 : BitVec 32 := Scalar.select v509 c1_i32_349 c8_i32_347
  let v511 : BitVec 32 := Scalar.remsi v508 v510
  let c0_i32_351 : BitVec 32 := 0#32
  let v513 : BitVec 1 := Scalar.cmpi .slt v511 c0_i32_351
  let c0_i32_352 : BitVec 32 := 0#32
  let v514 : BitVec 1 := Scalar.cmpi .slt v510 c0_i32_352
  let v515 : BitVec 1 := Scalar.xori v513 v514
  let c0_i32_350 : BitVec 32 := 0#32
  let v512 : BitVec 1 := Scalar.cmpi .ne v511 c0_i32_350
  let v516 : BitVec 1 := Scalar.andi v515 v512
  let v517 : BitVec 32 := Scalar.addi v511 v510
  let v518 : BitVec 32 := Scalar.select v516 v517 v511
  let c1_i32_357 : BitVec 32 := 1#32
  let v523 : BitVec 32 := Scalar.muli v518 c1_i32_357
  let v524 : BitVec 32 := Scalar.addi c0_i32_358 v523
  v524.toNat
def k0_dev26 (d0 : Dev nD) : Nat :=
  let c0_i32_374 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_362 : BitVec 32 := 5#32
  let v532 : BitVec 32 := Scalar.addi v2 c5_i32_362
  let c8_i32_363 : BitVec 32 := 8#32
  let c0_i32_364 : BitVec 32 := 0#32
  let v533 : BitVec 1 := Scalar.cmpi .eq c8_i32_363 c0_i32_364
  let c1_i32_365 : BitVec 32 := 1#32
  let v534 : BitVec 32 := Scalar.select v533 c1_i32_365 c8_i32_363
  let v535 : BitVec 32 := Scalar.remsi v532 v534
  let c0_i32_367 : BitVec 32 := 0#32
  let v537 : BitVec 1 := Scalar.cmpi .slt v535 c0_i32_367
  let c0_i32_368 : BitVec 32 := 0#32
  let v538 : BitVec 1 := Scalar.cmpi .slt v534 c0_i32_368
  let v539 : BitVec 1 := Scalar.xori v537 v538
  let c0_i32_366 : BitVec 32 := 0#32
  let v536 : BitVec 1 := Scalar.cmpi .ne v535 c0_i32_366
  let v540 : BitVec 1 := Scalar.andi v539 v536
  let v541 : BitVec 32 := Scalar.addi v535 v534
  let v542 : BitVec 32 := Scalar.select v540 v541 v535
  let c1_i32_373 : BitVec 32 := 1#32
  let v547 : BitVec 32 := Scalar.muli v542 c1_i32_373
  let v548 : BitVec 32 := Scalar.addi c0_i32_374 v547
  v548.toNat
def k0_dev27 (d0 : Dev nD) : Nat :=
  let c0_i32_390 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_378 : BitVec 32 := 6#32
  let v556 : BitVec 32 := Scalar.addi v2 c6_i32_378
  let c8_i32_379 : BitVec 32 := 8#32
  let c0_i32_380 : BitVec 32 := 0#32
  let v557 : BitVec 1 := Scalar.cmpi .eq c8_i32_379 c0_i32_380
  let c1_i32_381 : BitVec 32 := 1#32
  let v558 : BitVec 32 := Scalar.select v557 c1_i32_381 c8_i32_379
  let v559 : BitVec 32 := Scalar.remsi v556 v558
  let c0_i32_383 : BitVec 32 := 0#32
  let v561 : BitVec 1 := Scalar.cmpi .slt v559 c0_i32_383
  let c0_i32_384 : BitVec 32 := 0#32
  let v562 : BitVec 1 := Scalar.cmpi .slt v558 c0_i32_384
  let v563 : BitVec 1 := Scalar.xori v561 v562
  let c0_i32_382 : BitVec 32 := 0#32
  let v560 : BitVec 1 := Scalar.cmpi .ne v559 c0_i32_382
  let v564 : BitVec 1 := Scalar.andi v563 v560
  let v565 : BitVec 32 := Scalar.addi v559 v558
  let v566 : BitVec 32 := Scalar.select v564 v565 v559
  let c1_i32_389 : BitVec 32 := 1#32
  let v571 : BitVec 32 := Scalar.muli v566 c1_i32_389
  let v572 : BitVec 32 := Scalar.addi c0_i32_390 v571
  v572.toNat
def k0_dev28 (d0 : Dev nD) : Nat :=
  let c0_i32_406 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_394 : BitVec 32 := 7#32
  let v580 : BitVec 32 := Scalar.addi v2 c7_i32_394
  let c8_i32_395 : BitVec 32 := 8#32
  let c0_i32_396 : BitVec 32 := 0#32
  let v581 : BitVec 1 := Scalar.cmpi .eq c8_i32_395 c0_i32_396
  let c1_i32_397 : BitVec 32 := 1#32
  let v582 : BitVec 32 := Scalar.select v581 c1_i32_397 c8_i32_395
  let v583 : BitVec 32 := Scalar.remsi v580 v582
  let c0_i32_399 : BitVec 32 := 0#32
  let v585 : BitVec 1 := Scalar.cmpi .slt v583 c0_i32_399
  let c0_i32_400 : BitVec 32 := 0#32
  let v586 : BitVec 1 := Scalar.cmpi .slt v582 c0_i32_400
  let v587 : BitVec 1 := Scalar.xori v585 v586
  let c0_i32_398 : BitVec 32 := 0#32
  let v584 : BitVec 1 := Scalar.cmpi .ne v583 c0_i32_398
  let v588 : BitVec 1 := Scalar.andi v587 v584
  let v589 : BitVec 32 := Scalar.addi v583 v582
  let v590 : BitVec 32 := Scalar.select v588 v589 v583
  let c1_i32_405 : BitVec 32 := 1#32
  let v595 : BitVec 32 := Scalar.muli v590 c1_i32_405
  let v596 : BitVec 32 := Scalar.addi c0_i32_406 v595
  v596.toNat
def k0_dev29 (d0 : Dev nD) : Nat :=
  let c0_i32_420 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_410 : BitVec 32 := 1#32
  let v604 : BitVec 32 := Scalar.addi v2 c1_i32_410
  let c8_i32_411 : BitVec 32 := 8#32
  let c0_i32_412 : BitVec 32 := 0#32
  let v605 : BitVec 1 := Scalar.cmpi .eq c8_i32_411 c0_i32_412
  let c1_i32_413 : BitVec 32 := 1#32
  let v606 : BitVec 32 := Scalar.select v605 c1_i32_413 c8_i32_411
  let v607 : BitVec 32 := Scalar.remsi v604 v606
  let c0_i32_415 : BitVec 32 := 0#32
  let v609 : BitVec 1 := Scalar.cmpi .slt v607 c0_i32_415
  let c0_i32_416 : BitVec 32 := 0#32
  let v610 : BitVec 1 := Scalar.cmpi .slt v606 c0_i32_416
  let v611 : BitVec 1 := Scalar.xori v609 v610
  let c0_i32_414 : BitVec 32 := 0#32
  let v608 : BitVec 1 := Scalar.cmpi .ne v607 c0_i32_414
  let v612 : BitVec 1 := Scalar.andi v611 v608
  let v613 : BitVec 32 := Scalar.addi v607 v606
  let v614 : BitVec 32 := Scalar.select v612 v613 v607
  let c1_i32_419 : BitVec 32 := 1#32
  let v619 : BitVec 32 := Scalar.muli v614 c1_i32_419
  let v620 : BitVec 32 := Scalar.addi c0_i32_420 v619
  v620.toNat
def k0_dev30 (d0 : Dev nD) : Nat :=
  let c0_i32_436 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_424 : BitVec 32 := 2#32
  let v628 : BitVec 32 := Scalar.addi v2 c2_i32_424
  let c8_i32_425 : BitVec 32 := 8#32
  let c0_i32_426 : BitVec 32 := 0#32
  let v629 : BitVec 1 := Scalar.cmpi .eq c8_i32_425 c0_i32_426
  let c1_i32_427 : BitVec 32 := 1#32
  let v630 : BitVec 32 := Scalar.select v629 c1_i32_427 c8_i32_425
  let v631 : BitVec 32 := Scalar.remsi v628 v630
  let c0_i32_429 : BitVec 32 := 0#32
  let v633 : BitVec 1 := Scalar.cmpi .slt v631 c0_i32_429
  let c0_i32_430 : BitVec 32 := 0#32
  let v634 : BitVec 1 := Scalar.cmpi .slt v630 c0_i32_430
  let v635 : BitVec 1 := Scalar.xori v633 v634
  let c0_i32_428 : BitVec 32 := 0#32
  let v632 : BitVec 1 := Scalar.cmpi .ne v631 c0_i32_428
  let v636 : BitVec 1 := Scalar.andi v635 v632
  let v637 : BitVec 32 := Scalar.addi v631 v630
  let v638 : BitVec 32 := Scalar.select v636 v637 v631
  let c1_i32_435 : BitVec 32 := 1#32
  let v643 : BitVec 32 := Scalar.muli v638 c1_i32_435
  let v644 : BitVec 32 := Scalar.addi c0_i32_436 v643
  v644.toNat
def k0_dev31 (d0 : Dev nD) : Nat :=
  let c0_i32_452 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_440 : BitVec 32 := 3#32
  let v652 : BitVec 32 := Scalar.addi v2 c3_i32_440
  let c8_i32_441 : BitVec 32 := 8#32
  let c0_i32_442 : BitVec 32 := 0#32
  let v653 : BitVec 1 := Scalar.cmpi .eq c8_i32_441 c0_i32_442
  let c1_i32_443 : BitVec 32 := 1#32
  let v654 : BitVec 32 := Scalar.select v653 c1_i32_443 c8_i32_441
  let v655 : BitVec 32 := Scalar.remsi v652 v654
  let c0_i32_445 : BitVec 32 := 0#32
  let v657 : BitVec 1 := Scalar.cmpi .slt v655 c0_i32_445
  let c0_i32_446 : BitVec 32 := 0#32
  let v658 : BitVec 1 := Scalar.cmpi .slt v654 c0_i32_446
  let v659 : BitVec 1 := Scalar.xori v657 v658
  let c0_i32_444 : BitVec 32 := 0#32
  let v656 : BitVec 1 := Scalar.cmpi .ne v655 c0_i32_444
  let v660 : BitVec 1 := Scalar.andi v659 v656
  let v661 : BitVec 32 := Scalar.addi v655 v654
  let v662 : BitVec 32 := Scalar.select v660 v661 v655
  let c1_i32_451 : BitVec 32 := 1#32
  let v667 : BitVec 32 := Scalar.muli v662 c1_i32_451
  let v668 : BitVec 32 := Scalar.addi c0_i32_452 v667
  v668.toNat
def k0_dev32 (d0 : Dev nD) : Nat :=
  let c0_i32_469 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_456 : BitVec 32 := 4#32
  let v676 : BitVec 32 := Scalar.addi v2 c4_i32_456
  let c8_i32_457 : BitVec 32 := 8#32
  let c0_i32_458 : BitVec 32 := 0#32
  let v677 : BitVec 1 := Scalar.cmpi .eq c8_i32_457 c0_i32_458
  let c1_i32_459 : BitVec 32 := 1#32
  let v678 : BitVec 32 := Scalar.select v677 c1_i32_459 c8_i32_457
  let v679 : BitVec 32 := Scalar.remsi v676 v678
  let c0_i32_461 : BitVec 32 := 0#32
  let v681 : BitVec 1 := Scalar.cmpi .slt v679 c0_i32_461
  let c0_i32_462 : BitVec 32 := 0#32
  let v682 : BitVec 1 := Scalar.cmpi .slt v678 c0_i32_462
  let v683 : BitVec 1 := Scalar.xori v681 v682
  let c0_i32_460 : BitVec 32 := 0#32
  let v680 : BitVec 1 := Scalar.cmpi .ne v679 c0_i32_460
  let v684 : BitVec 1 := Scalar.andi v683 v680
  let v685 : BitVec 32 := Scalar.addi v679 v678
  let v686 : BitVec 32 := Scalar.select v684 v685 v679
  let c1_i32_468 : BitVec 32 := 1#32
  let v691 : BitVec 32 := Scalar.muli v686 c1_i32_468
  let v692 : BitVec 32 := Scalar.addi c0_i32_469 v691
  v692.toNat
def k0_dev33 (d0 : Dev nD) : Nat :=
  let c0_i32_485 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_473 : BitVec 32 := 5#32
  let v700 : BitVec 32 := Scalar.addi v2 c5_i32_473
  let c8_i32_474 : BitVec 32 := 8#32
  let c0_i32_475 : BitVec 32 := 0#32
  let v701 : BitVec 1 := Scalar.cmpi .eq c8_i32_474 c0_i32_475
  let c1_i32_476 : BitVec 32 := 1#32
  let v702 : BitVec 32 := Scalar.select v701 c1_i32_476 c8_i32_474
  let v703 : BitVec 32 := Scalar.remsi v700 v702
  let c0_i32_478 : BitVec 32 := 0#32
  let v705 : BitVec 1 := Scalar.cmpi .slt v703 c0_i32_478
  let c0_i32_479 : BitVec 32 := 0#32
  let v706 : BitVec 1 := Scalar.cmpi .slt v702 c0_i32_479
  let v707 : BitVec 1 := Scalar.xori v705 v706
  let c0_i32_477 : BitVec 32 := 0#32
  let v704 : BitVec 1 := Scalar.cmpi .ne v703 c0_i32_477
  let v708 : BitVec 1 := Scalar.andi v707 v704
  let v709 : BitVec 32 := Scalar.addi v703 v702
  let v710 : BitVec 32 := Scalar.select v708 v709 v703
  let c1_i32_484 : BitVec 32 := 1#32
  let v715 : BitVec 32 := Scalar.muli v710 c1_i32_484
  let v716 : BitVec 32 := Scalar.addi c0_i32_485 v715
  v716.toNat
def k0_dev34 (d0 : Dev nD) : Nat :=
  let c0_i32_501 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_489 : BitVec 32 := 6#32
  let v724 : BitVec 32 := Scalar.addi v2 c6_i32_489
  let c8_i32_490 : BitVec 32 := 8#32
  let c0_i32_491 : BitVec 32 := 0#32
  let v725 : BitVec 1 := Scalar.cmpi .eq c8_i32_490 c0_i32_491
  let c1_i32_492 : BitVec 32 := 1#32
  let v726 : BitVec 32 := Scalar.select v725 c1_i32_492 c8_i32_490
  let v727 : BitVec 32 := Scalar.remsi v724 v726
  let c0_i32_494 : BitVec 32 := 0#32
  let v729 : BitVec 1 := Scalar.cmpi .slt v727 c0_i32_494
  let c0_i32_495 : BitVec 32 := 0#32
  let v730 : BitVec 1 := Scalar.cmpi .slt v726 c0_i32_495
  let v731 : BitVec 1 := Scalar.xori v729 v730
  let c0_i32_493 : BitVec 32 := 0#32
  let v728 : BitVec 1 := Scalar.cmpi .ne v727 c0_i32_493
  let v732 : BitVec 1 := Scalar.andi v731 v728
  let v733 : BitVec 32 := Scalar.addi v727 v726
  let v734 : BitVec 32 := Scalar.select v732 v733 v727
  let c1_i32_500 : BitVec 32 := 1#32
  let v739 : BitVec 32 := Scalar.muli v734 c1_i32_500
  let v740 : BitVec 32 := Scalar.addi c0_i32_501 v739
  v740.toNat
def k0_dev35 (d0 : Dev nD) : Nat :=
  let c0_i32_517 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_505 : BitVec 32 := 7#32
  let v748 : BitVec 32 := Scalar.addi v2 c7_i32_505
  let c8_i32_506 : BitVec 32 := 8#32
  let c0_i32_507 : BitVec 32 := 0#32
  let v749 : BitVec 1 := Scalar.cmpi .eq c8_i32_506 c0_i32_507
  let c1_i32_508 : BitVec 32 := 1#32
  let v750 : BitVec 32 := Scalar.select v749 c1_i32_508 c8_i32_506
  let v751 : BitVec 32 := Scalar.remsi v748 v750
  let c0_i32_510 : BitVec 32 := 0#32
  let v753 : BitVec 1 := Scalar.cmpi .slt v751 c0_i32_510
  let c0_i32_511 : BitVec 32 := 0#32
  let v754 : BitVec 1 := Scalar.cmpi .slt v750 c0_i32_511
  let v755 : BitVec 1 := Scalar.xori v753 v754
  let c0_i32_509 : BitVec 32 := 0#32
  let v752 : BitVec 1 := Scalar.cmpi .ne v751 c0_i32_509
  let v756 : BitVec 1 := Scalar.andi v755 v752
  let v757 : BitVec 32 := Scalar.addi v751 v750
  let v758 : BitVec 32 := Scalar.select v756 v757 v751
  let c1_i32_516 : BitVec 32 := 1#32
  let v763 : BitVec 32 := Scalar.muli v758 c1_i32_516
  let v764 : BitVec 32 := Scalar.addi c0_i32_517 v763
  v764.toNat
def k0_off4 (d0 : Dev nD) (c0_i32_523 : BitVec 32) : Fin 3 → Nat :=
  let c0_524 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_522 : BitVec 32 := 128#32
  let v775 : BitVec 32 := Scalar.muli v2 c128_i32_522
  let v776 : BitVec 32 := Scalar.addi v775 c0_i32_523
  let v777 : Index := Scalar.indexCast v776
  let c0_525 : Index := 0#32
  ![0, v777.toNat, 0]
def k0_off5 (d0 : Dev nD) (c0_i32_523 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_522 : BitVec 32 := 128#32
  let v775 : BitVec 32 := Scalar.muli v2 c128_i32_522
  let v776 : BitVec 32 := Scalar.addi v775 c0_i32_523
  let v780 : Index := Scalar.indexCast v776
  let c0_526 : Index := 0#32
  ![v780.toNat, 0]
def k0_off6 (d0 : Dev nD) (c0_i32_535 : BitVec 32) (c1_i32_527 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v784 : BitVec 32 := Scalar.addi v2 c1_i32_527
  let c8_i32_528 : BitVec 32 := 8#32
  let c0_i32_529 : BitVec 32 := 0#32
  let v785 : BitVec 1 := Scalar.cmpi .eq c8_i32_528 c0_i32_529
  let c1_i32_530 : BitVec 32 := 1#32
  let v786 : BitVec 32 := Scalar.select v785 c1_i32_530 c8_i32_528
  let v787 : BitVec 32 := Scalar.remsi v784 v786
  let c0_i32_532 : BitVec 32 := 0#32
  let v789 : BitVec 1 := Scalar.cmpi .slt v787 c0_i32_532
  let c0_i32_533 : BitVec 32 := 0#32
  let v790 : BitVec 1 := Scalar.cmpi .slt v786 c0_i32_533
  let v791 : BitVec 1 := Scalar.xori v789 v790
  let c0_i32_531 : BitVec 32 := 0#32
  let v788 : BitVec 1 := Scalar.cmpi .ne v787 c0_i32_531
  let v792 : BitVec 1 := Scalar.andi v791 v788
  let v793 : BitVec 32 := Scalar.addi v787 v786
  let v794 : BitVec 32 := Scalar.select v792 v793 v787
  let v796 : BitVec 32 := Scalar.addi c0_i32_535 v794
  ![v796.toNat]
def k0_off7 (d0 : Dev nD) (c0_i32_534 : BitVec 32) (c1_i32_527 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v784 : BitVec 32 := Scalar.addi v2 c1_i32_527
  let c8_i32_528 : BitVec 32 := 8#32
  let c0_i32_529 : BitVec 32 := 0#32
  let v785 : BitVec 1 := Scalar.cmpi .eq c8_i32_528 c0_i32_529
  let c1_i32_530 : BitVec 32 := 1#32
  let v786 : BitVec 32 := Scalar.select v785 c1_i32_530 c8_i32_528
  let v787 : BitVec 32 := Scalar.remsi v784 v786
  let c0_i32_532 : BitVec 32 := 0#32
  let v789 : BitVec 1 := Scalar.cmpi .slt v787 c0_i32_532
  let c0_i32_533 : BitVec 32 := 0#32
  let v790 : BitVec 1 := Scalar.cmpi .slt v786 c0_i32_533
  let v791 : BitVec 1 := Scalar.xori v789 v790
  let c0_i32_531 : BitVec 32 := 0#32
  let v788 : BitVec 1 := Scalar.cmpi .ne v787 c0_i32_531
  let v792 : BitVec 1 := Scalar.andi v791 v788
  let v793 : BitVec 32 := Scalar.addi v787 v786
  let v794 : BitVec 32 := Scalar.select v792 v793 v787
  let v795 : BitVec 32 := Scalar.addi c0_i32_534 v794
  let c0_i32_539 : BitVec 32 := 0#32
  let c0_i32_540 : BitVec 32 := 0#32
  ![v795.toNat, 0, 0]
def k0_off8 (d0 : Dev nD) (c0_i32_543 : BitVec 32) (c1_i32_527 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v784 : BitVec 32 := Scalar.addi v2 c1_i32_527
  let c8_i32_528 : BitVec 32 := 8#32
  let c0_i32_529 : BitVec 32 := 0#32
  let v785 : BitVec 1 := Scalar.cmpi .eq c8_i32_528 c0_i32_529
  let c1_i32_530 : BitVec 32 := 1#32
  let v786 : BitVec 32 := Scalar.select v785 c1_i32_530 c8_i32_528
  let v787 : BitVec 32 := Scalar.remsi v784 v786
  let c0_i32_532 : BitVec 32 := 0#32
  let v789 : BitVec 1 := Scalar.cmpi .slt v787 c0_i32_532
  let c0_i32_533 : BitVec 32 := 0#32
  let v790 : BitVec 1 := Scalar.cmpi .slt v786 c0_i32_533
  let v791 : BitVec 1 := Scalar.xori v789 v790
  let c0_i32_531 : BitVec 32 := 0#32
  let v788 : BitVec 1 := Scalar.cmpi .ne v787 c0_i32_531
  let v792 : BitVec 1 := Scalar.andi v791 v788
  let v793 : BitVec 32 := Scalar.addi v787 v786
  let v794 : BitVec 32 := Scalar.select v792 v793 v787
  let v804 : BitVec 32 := Scalar.addi c0_i32_543 v794
  let v805 : Index := Scalar.indexCast v804
  let c0_544 : Index := 0#32
  let c0_545 : Index := 0#32
  ![v805.toNat, 0, 0]
def k0_off9 (d0 : Dev nD) (c0_i32_523 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_522 : BitVec 32 := 128#32
  let v775 : BitVec 32 := Scalar.muli v2 c128_i32_522
  let v776 : BitVec 32 := Scalar.addi v775 c0_i32_523
  let c0_i32_674 : BitVec 32 := 0#32
  ![v776.toNat, 0]
def k0_dev36 (d0 : Dev nD) : Nat :=
  let c0_i32_673 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_663 : BitVec 32 := 1#32
  let v983 : BitVec 32 := Scalar.addi v2 c1_i32_663
  let c8_i32_664 : BitVec 32 := 8#32
  let c0_i32_665 : BitVec 32 := 0#32
  let v984 : BitVec 1 := Scalar.cmpi .eq c8_i32_664 c0_i32_665
  let c1_i32_666 : BitVec 32 := 1#32
  let v985 : BitVec 32 := Scalar.select v984 c1_i32_666 c8_i32_664
  let v986 : BitVec 32 := Scalar.remsi v983 v985
  let c0_i32_668 : BitVec 32 := 0#32
  let v988 : BitVec 1 := Scalar.cmpi .slt v986 c0_i32_668
  let c0_i32_669 : BitVec 32 := 0#32
  let v989 : BitVec 1 := Scalar.cmpi .slt v985 c0_i32_669
  let v990 : BitVec 1 := Scalar.xori v988 v989
  let c0_i32_667 : BitVec 32 := 0#32
  let v987 : BitVec 1 := Scalar.cmpi .ne v986 c0_i32_667
  let v991 : BitVec 1 := Scalar.andi v990 v987
  let v992 : BitVec 32 := Scalar.addi v986 v985
  let v993 : BitVec 32 := Scalar.select v991 v992 v986
  let c1_i32_672 : BitVec 32 := 1#32
  let v995 : BitVec 32 := Scalar.muli v993 c1_i32_672
  let v996 : BitVec 32 := Scalar.addi c0_i32_673 v995
  v996.toNat
def k0_dev37 (d0 : Dev nD) : Nat :=
  let c0_i32_686 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_676 : BitVec 32 := 2#32
  let v1003 : BitVec 32 := Scalar.addi v2 c2_i32_676
  let c8_i32_677 : BitVec 32 := 8#32
  let c0_i32_678 : BitVec 32 := 0#32
  let v1004 : BitVec 1 := Scalar.cmpi .eq c8_i32_677 c0_i32_678
  let c1_i32_679 : BitVec 32 := 1#32
  let v1005 : BitVec 32 := Scalar.select v1004 c1_i32_679 c8_i32_677
  let v1006 : BitVec 32 := Scalar.remsi v1003 v1005
  let c0_i32_681 : BitVec 32 := 0#32
  let v1008 : BitVec 1 := Scalar.cmpi .slt v1006 c0_i32_681
  let c0_i32_682 : BitVec 32 := 0#32
  let v1009 : BitVec 1 := Scalar.cmpi .slt v1005 c0_i32_682
  let v1010 : BitVec 1 := Scalar.xori v1008 v1009
  let c0_i32_680 : BitVec 32 := 0#32
  let v1007 : BitVec 1 := Scalar.cmpi .ne v1006 c0_i32_680
  let v1011 : BitVec 1 := Scalar.andi v1010 v1007
  let v1012 : BitVec 32 := Scalar.addi v1006 v1005
  let v1013 : BitVec 32 := Scalar.select v1011 v1012 v1006
  let c1_i32_685 : BitVec 32 := 1#32
  let v1015 : BitVec 32 := Scalar.muli v1013 c1_i32_685
  let v1016 : BitVec 32 := Scalar.addi c0_i32_686 v1015
  v1016.toNat
def k0_dev38 (d0 : Dev nD) : Nat :=
  let c0_i32_699 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_689 : BitVec 32 := 3#32
  let v1023 : BitVec 32 := Scalar.addi v2 c3_i32_689
  let c8_i32_690 : BitVec 32 := 8#32
  let c0_i32_691 : BitVec 32 := 0#32
  let v1024 : BitVec 1 := Scalar.cmpi .eq c8_i32_690 c0_i32_691
  let c1_i32_692 : BitVec 32 := 1#32
  let v1025 : BitVec 32 := Scalar.select v1024 c1_i32_692 c8_i32_690
  let v1026 : BitVec 32 := Scalar.remsi v1023 v1025
  let c0_i32_694 : BitVec 32 := 0#32
  let v1028 : BitVec 1 := Scalar.cmpi .slt v1026 c0_i32_694
  let c0_i32_695 : BitVec 32 := 0#32
  let v1029 : BitVec 1 := Scalar.cmpi .slt v1025 c0_i32_695
  let v1030 : BitVec 1 := Scalar.xori v1028 v1029
  let c0_i32_693 : BitVec 32 := 0#32
  let v1027 : BitVec 1 := Scalar.cmpi .ne v1026 c0_i32_693
  let v1031 : BitVec 1 := Scalar.andi v1030 v1027
  let v1032 : BitVec 32 := Scalar.addi v1026 v1025
  let v1033 : BitVec 32 := Scalar.select v1031 v1032 v1026
  let c1_i32_698 : BitVec 32 := 1#32
  let v1035 : BitVec 32 := Scalar.muli v1033 c1_i32_698
  let v1036 : BitVec 32 := Scalar.addi c0_i32_699 v1035
  v1036.toNat
def k0_dev39 (d0 : Dev nD) : Nat :=
  let c0_i32_712 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_702 : BitVec 32 := 4#32
  let v1043 : BitVec 32 := Scalar.addi v2 c4_i32_702
  let c8_i32_703 : BitVec 32 := 8#32
  let c0_i32_704 : BitVec 32 := 0#32
  let v1044 : BitVec 1 := Scalar.cmpi .eq c8_i32_703 c0_i32_704
  let c1_i32_705 : BitVec 32 := 1#32
  let v1045 : BitVec 32 := Scalar.select v1044 c1_i32_705 c8_i32_703
  let v1046 : BitVec 32 := Scalar.remsi v1043 v1045
  let c0_i32_707 : BitVec 32 := 0#32
  let v1048 : BitVec 1 := Scalar.cmpi .slt v1046 c0_i32_707
  let c0_i32_708 : BitVec 32 := 0#32
  let v1049 : BitVec 1 := Scalar.cmpi .slt v1045 c0_i32_708
  let v1050 : BitVec 1 := Scalar.xori v1048 v1049
  let c0_i32_706 : BitVec 32 := 0#32
  let v1047 : BitVec 1 := Scalar.cmpi .ne v1046 c0_i32_706
  let v1051 : BitVec 1 := Scalar.andi v1050 v1047
  let v1052 : BitVec 32 := Scalar.addi v1046 v1045
  let v1053 : BitVec 32 := Scalar.select v1051 v1052 v1046
  let c1_i32_711 : BitVec 32 := 1#32
  let v1055 : BitVec 32 := Scalar.muli v1053 c1_i32_711
  let v1056 : BitVec 32 := Scalar.addi c0_i32_712 v1055
  v1056.toNat
def k0_dev40 (d0 : Dev nD) : Nat :=
  let c0_i32_725 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_715 : BitVec 32 := 5#32
  let v1063 : BitVec 32 := Scalar.addi v2 c5_i32_715
  let c8_i32_716 : BitVec 32 := 8#32
  let c0_i32_717 : BitVec 32 := 0#32
  let v1064 : BitVec 1 := Scalar.cmpi .eq c8_i32_716 c0_i32_717
  let c1_i32_718 : BitVec 32 := 1#32
  let v1065 : BitVec 32 := Scalar.select v1064 c1_i32_718 c8_i32_716
  let v1066 : BitVec 32 := Scalar.remsi v1063 v1065
  let c0_i32_720 : BitVec 32 := 0#32
  let v1068 : BitVec 1 := Scalar.cmpi .slt v1066 c0_i32_720
  let c0_i32_721 : BitVec 32 := 0#32
  let v1069 : BitVec 1 := Scalar.cmpi .slt v1065 c0_i32_721
  let v1070 : BitVec 1 := Scalar.xori v1068 v1069
  let c0_i32_719 : BitVec 32 := 0#32
  let v1067 : BitVec 1 := Scalar.cmpi .ne v1066 c0_i32_719
  let v1071 : BitVec 1 := Scalar.andi v1070 v1067
  let v1072 : BitVec 32 := Scalar.addi v1066 v1065
  let v1073 : BitVec 32 := Scalar.select v1071 v1072 v1066
  let c1_i32_724 : BitVec 32 := 1#32
  let v1075 : BitVec 32 := Scalar.muli v1073 c1_i32_724
  let v1076 : BitVec 32 := Scalar.addi c0_i32_725 v1075
  v1076.toNat
def k0_dev41 (d0 : Dev nD) : Nat :=
  let c0_i32_738 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_728 : BitVec 32 := 6#32
  let v1083 : BitVec 32 := Scalar.addi v2 c6_i32_728
  let c8_i32_729 : BitVec 32 := 8#32
  let c0_i32_730 : BitVec 32 := 0#32
  let v1084 : BitVec 1 := Scalar.cmpi .eq c8_i32_729 c0_i32_730
  let c1_i32_731 : BitVec 32 := 1#32
  let v1085 : BitVec 32 := Scalar.select v1084 c1_i32_731 c8_i32_729
  let v1086 : BitVec 32 := Scalar.remsi v1083 v1085
  let c0_i32_733 : BitVec 32 := 0#32
  let v1088 : BitVec 1 := Scalar.cmpi .slt v1086 c0_i32_733
  let c0_i32_734 : BitVec 32 := 0#32
  let v1089 : BitVec 1 := Scalar.cmpi .slt v1085 c0_i32_734
  let v1090 : BitVec 1 := Scalar.xori v1088 v1089
  let c0_i32_732 : BitVec 32 := 0#32
  let v1087 : BitVec 1 := Scalar.cmpi .ne v1086 c0_i32_732
  let v1091 : BitVec 1 := Scalar.andi v1090 v1087
  let v1092 : BitVec 32 := Scalar.addi v1086 v1085
  let v1093 : BitVec 32 := Scalar.select v1091 v1092 v1086
  let c1_i32_737 : BitVec 32 := 1#32
  let v1095 : BitVec 32 := Scalar.muli v1093 c1_i32_737
  let v1096 : BitVec 32 := Scalar.addi c0_i32_738 v1095
  v1096.toNat
def k0_dev42 (d0 : Dev nD) : Nat :=
  let c0_i32_751 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_741 : BitVec 32 := 7#32
  let v1103 : BitVec 32 := Scalar.addi v2 c7_i32_741
  let c8_i32_742 : BitVec 32 := 8#32
  let c0_i32_743 : BitVec 32 := 0#32
  let v1104 : BitVec 1 := Scalar.cmpi .eq c8_i32_742 c0_i32_743
  let c1_i32_744 : BitVec 32 := 1#32
  let v1105 : BitVec 32 := Scalar.select v1104 c1_i32_744 c8_i32_742
  let v1106 : BitVec 32 := Scalar.remsi v1103 v1105
  let c0_i32_746 : BitVec 32 := 0#32
  let v1108 : BitVec 1 := Scalar.cmpi .slt v1106 c0_i32_746
  let c0_i32_747 : BitVec 32 := 0#32
  let v1109 : BitVec 1 := Scalar.cmpi .slt v1105 c0_i32_747
  let v1110 : BitVec 1 := Scalar.xori v1108 v1109
  let c0_i32_745 : BitVec 32 := 0#32
  let v1107 : BitVec 1 := Scalar.cmpi .ne v1106 c0_i32_745
  let v1111 : BitVec 1 := Scalar.andi v1110 v1107
  let v1112 : BitVec 32 := Scalar.addi v1106 v1105
  let v1113 : BitVec 32 := Scalar.select v1111 v1112 v1106
  let c1_i32_750 : BitVec 32 := 1#32
  let v1115 : BitVec 32 := Scalar.muli v1113 c1_i32_750
  let v1116 : BitVec 32 := Scalar.addi c0_i32_751 v1115
  v1116.toNat
def k0_dev43 (d0 : Dev nD) : Nat :=
  let c0_i32_906 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_896 : BitVec 32 := 1#32
  let v1331 : BitVec 32 := Scalar.addi v2 c1_i32_896
  let c8_i32_897 : BitVec 32 := 8#32
  let c0_i32_898 : BitVec 32 := 0#32
  let v1332 : BitVec 1 := Scalar.cmpi .eq c8_i32_897 c0_i32_898
  let c1_i32_899 : BitVec 32 := 1#32
  let v1333 : BitVec 32 := Scalar.select v1332 c1_i32_899 c8_i32_897
  let v1334 : BitVec 32 := Scalar.remsi v1331 v1333
  let c0_i32_901 : BitVec 32 := 0#32
  let v1336 : BitVec 1 := Scalar.cmpi .slt v1334 c0_i32_901
  let c0_i32_902 : BitVec 32 := 0#32
  let v1337 : BitVec 1 := Scalar.cmpi .slt v1333 c0_i32_902
  let v1338 : BitVec 1 := Scalar.xori v1336 v1337
  let c0_i32_900 : BitVec 32 := 0#32
  let v1335 : BitVec 1 := Scalar.cmpi .ne v1334 c0_i32_900
  let v1339 : BitVec 1 := Scalar.andi v1338 v1335
  let v1340 : BitVec 32 := Scalar.addi v1334 v1333
  let v1341 : BitVec 32 := Scalar.select v1339 v1340 v1334
  let c1_i32_905 : BitVec 32 := 1#32
  let v1343 : BitVec 32 := Scalar.muli v1341 c1_i32_905
  let v1344 : BitVec 32 := Scalar.addi c0_i32_906 v1343
  v1344.toNat
def k0_dev44 (d0 : Dev nD) : Nat :=
  let c0_i32_919 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_909 : BitVec 32 := 2#32
  let v1351 : BitVec 32 := Scalar.addi v2 c2_i32_909
  let c8_i32_910 : BitVec 32 := 8#32
  let c0_i32_911 : BitVec 32 := 0#32
  let v1352 : BitVec 1 := Scalar.cmpi .eq c8_i32_910 c0_i32_911
  let c1_i32_912 : BitVec 32 := 1#32
  let v1353 : BitVec 32 := Scalar.select v1352 c1_i32_912 c8_i32_910
  let v1354 : BitVec 32 := Scalar.remsi v1351 v1353
  let c0_i32_914 : BitVec 32 := 0#32
  let v1356 : BitVec 1 := Scalar.cmpi .slt v1354 c0_i32_914
  let c0_i32_915 : BitVec 32 := 0#32
  let v1357 : BitVec 1 := Scalar.cmpi .slt v1353 c0_i32_915
  let v1358 : BitVec 1 := Scalar.xori v1356 v1357
  let c0_i32_913 : BitVec 32 := 0#32
  let v1355 : BitVec 1 := Scalar.cmpi .ne v1354 c0_i32_913
  let v1359 : BitVec 1 := Scalar.andi v1358 v1355
  let v1360 : BitVec 32 := Scalar.addi v1354 v1353
  let v1361 : BitVec 32 := Scalar.select v1359 v1360 v1354
  let c1_i32_918 : BitVec 32 := 1#32
  let v1363 : BitVec 32 := Scalar.muli v1361 c1_i32_918
  let v1364 : BitVec 32 := Scalar.addi c0_i32_919 v1363
  v1364.toNat
def k0_dev45 (d0 : Dev nD) : Nat :=
  let c0_i32_932 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_922 : BitVec 32 := 3#32
  let v1371 : BitVec 32 := Scalar.addi v2 c3_i32_922
  let c8_i32_923 : BitVec 32 := 8#32
  let c0_i32_924 : BitVec 32 := 0#32
  let v1372 : BitVec 1 := Scalar.cmpi .eq c8_i32_923 c0_i32_924
  let c1_i32_925 : BitVec 32 := 1#32
  let v1373 : BitVec 32 := Scalar.select v1372 c1_i32_925 c8_i32_923
  let v1374 : BitVec 32 := Scalar.remsi v1371 v1373
  let c0_i32_927 : BitVec 32 := 0#32
  let v1376 : BitVec 1 := Scalar.cmpi .slt v1374 c0_i32_927
  let c0_i32_928 : BitVec 32 := 0#32
  let v1377 : BitVec 1 := Scalar.cmpi .slt v1373 c0_i32_928
  let v1378 : BitVec 1 := Scalar.xori v1376 v1377
  let c0_i32_926 : BitVec 32 := 0#32
  let v1375 : BitVec 1 := Scalar.cmpi .ne v1374 c0_i32_926
  let v1379 : BitVec 1 := Scalar.andi v1378 v1375
  let v1380 : BitVec 32 := Scalar.addi v1374 v1373
  let v1381 : BitVec 32 := Scalar.select v1379 v1380 v1374
  let c1_i32_931 : BitVec 32 := 1#32
  let v1383 : BitVec 32 := Scalar.muli v1381 c1_i32_931
  let v1384 : BitVec 32 := Scalar.addi c0_i32_932 v1383
  v1384.toNat
def k0_dev46 (d0 : Dev nD) : Nat :=
  let c0_i32_945 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_935 : BitVec 32 := 4#32
  let v1391 : BitVec 32 := Scalar.addi v2 c4_i32_935
  let c8_i32_936 : BitVec 32 := 8#32
  let c0_i32_937 : BitVec 32 := 0#32
  let v1392 : BitVec 1 := Scalar.cmpi .eq c8_i32_936 c0_i32_937
  let c1_i32_938 : BitVec 32 := 1#32
  let v1393 : BitVec 32 := Scalar.select v1392 c1_i32_938 c8_i32_936
  let v1394 : BitVec 32 := Scalar.remsi v1391 v1393
  let c0_i32_940 : BitVec 32 := 0#32
  let v1396 : BitVec 1 := Scalar.cmpi .slt v1394 c0_i32_940
  let c0_i32_941 : BitVec 32 := 0#32
  let v1397 : BitVec 1 := Scalar.cmpi .slt v1393 c0_i32_941
  let v1398 : BitVec 1 := Scalar.xori v1396 v1397
  let c0_i32_939 : BitVec 32 := 0#32
  let v1395 : BitVec 1 := Scalar.cmpi .ne v1394 c0_i32_939
  let v1399 : BitVec 1 := Scalar.andi v1398 v1395
  let v1400 : BitVec 32 := Scalar.addi v1394 v1393
  let v1401 : BitVec 32 := Scalar.select v1399 v1400 v1394
  let c1_i32_944 : BitVec 32 := 1#32
  let v1403 : BitVec 32 := Scalar.muli v1401 c1_i32_944
  let v1404 : BitVec 32 := Scalar.addi c0_i32_945 v1403
  v1404.toNat
def k0_dev47 (d0 : Dev nD) : Nat :=
  let c0_i32_958 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_948 : BitVec 32 := 5#32
  let v1411 : BitVec 32 := Scalar.addi v2 c5_i32_948
  let c8_i32_949 : BitVec 32 := 8#32
  let c0_i32_950 : BitVec 32 := 0#32
  let v1412 : BitVec 1 := Scalar.cmpi .eq c8_i32_949 c0_i32_950
  let c1_i32_951 : BitVec 32 := 1#32
  let v1413 : BitVec 32 := Scalar.select v1412 c1_i32_951 c8_i32_949
  let v1414 : BitVec 32 := Scalar.remsi v1411 v1413
  let c0_i32_953 : BitVec 32 := 0#32
  let v1416 : BitVec 1 := Scalar.cmpi .slt v1414 c0_i32_953
  let c0_i32_954 : BitVec 32 := 0#32
  let v1417 : BitVec 1 := Scalar.cmpi .slt v1413 c0_i32_954
  let v1418 : BitVec 1 := Scalar.xori v1416 v1417
  let c0_i32_952 : BitVec 32 := 0#32
  let v1415 : BitVec 1 := Scalar.cmpi .ne v1414 c0_i32_952
  let v1419 : BitVec 1 := Scalar.andi v1418 v1415
  let v1420 : BitVec 32 := Scalar.addi v1414 v1413
  let v1421 : BitVec 32 := Scalar.select v1419 v1420 v1414
  let c1_i32_957 : BitVec 32 := 1#32
  let v1423 : BitVec 32 := Scalar.muli v1421 c1_i32_957
  let v1424 : BitVec 32 := Scalar.addi c0_i32_958 v1423
  v1424.toNat
def k0_dev48 (d0 : Dev nD) : Nat :=
  let c0_i32_971 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_961 : BitVec 32 := 6#32
  let v1431 : BitVec 32 := Scalar.addi v2 c6_i32_961
  let c8_i32_962 : BitVec 32 := 8#32
  let c0_i32_963 : BitVec 32 := 0#32
  let v1432 : BitVec 1 := Scalar.cmpi .eq c8_i32_962 c0_i32_963
  let c1_i32_964 : BitVec 32 := 1#32
  let v1433 : BitVec 32 := Scalar.select v1432 c1_i32_964 c8_i32_962
  let v1434 : BitVec 32 := Scalar.remsi v1431 v1433
  let c0_i32_966 : BitVec 32 := 0#32
  let v1436 : BitVec 1 := Scalar.cmpi .slt v1434 c0_i32_966
  let c0_i32_967 : BitVec 32 := 0#32
  let v1437 : BitVec 1 := Scalar.cmpi .slt v1433 c0_i32_967
  let v1438 : BitVec 1 := Scalar.xori v1436 v1437
  let c0_i32_965 : BitVec 32 := 0#32
  let v1435 : BitVec 1 := Scalar.cmpi .ne v1434 c0_i32_965
  let v1439 : BitVec 1 := Scalar.andi v1438 v1435
  let v1440 : BitVec 32 := Scalar.addi v1434 v1433
  let v1441 : BitVec 32 := Scalar.select v1439 v1440 v1434
  let c1_i32_970 : BitVec 32 := 1#32
  let v1443 : BitVec 32 := Scalar.muli v1441 c1_i32_970
  let v1444 : BitVec 32 := Scalar.addi c0_i32_971 v1443
  v1444.toNat
def k0_dev49 (d0 : Dev nD) : Nat :=
  let c0_i32_984 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_974 : BitVec 32 := 7#32
  let v1451 : BitVec 32 := Scalar.addi v2 c7_i32_974
  let c8_i32_975 : BitVec 32 := 8#32
  let c0_i32_976 : BitVec 32 := 0#32
  let v1452 : BitVec 1 := Scalar.cmpi .eq c8_i32_975 c0_i32_976
  let c1_i32_977 : BitVec 32 := 1#32
  let v1453 : BitVec 32 := Scalar.select v1452 c1_i32_977 c8_i32_975
  let v1454 : BitVec 32 := Scalar.remsi v1451 v1453
  let c0_i32_979 : BitVec 32 := 0#32
  let v1456 : BitVec 1 := Scalar.cmpi .slt v1454 c0_i32_979
  let c0_i32_980 : BitVec 32 := 0#32
  let v1457 : BitVec 1 := Scalar.cmpi .slt v1453 c0_i32_980
  let v1458 : BitVec 1 := Scalar.xori v1456 v1457
  let c0_i32_978 : BitVec 32 := 0#32
  let v1455 : BitVec 1 := Scalar.cmpi .ne v1454 c0_i32_978
  let v1459 : BitVec 1 := Scalar.andi v1458 v1455
  let v1460 : BitVec 32 := Scalar.addi v1454 v1453
  let v1461 : BitVec 32 := Scalar.select v1459 v1460 v1454
  let c1_i32_983 : BitVec 32 := 1#32
  let v1463 : BitVec 32 := Scalar.muli v1461 c1_i32_983
  let v1464 : BitVec 32 := Scalar.addi c0_i32_984 v1463
  v1464.toNat
def k0_dev50 (d0 : Dev nD) : Nat :=
  let c0_i32_1139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1129 : BitVec 32 := 1#32
  let v1679 : BitVec 32 := Scalar.addi v2 c1_i32_1129
  let c8_i32_1130 : BitVec 32 := 8#32
  let c0_i32_1131 : BitVec 32 := 0#32
  let v1680 : BitVec 1 := Scalar.cmpi .eq c8_i32_1130 c0_i32_1131
  let c1_i32_1132 : BitVec 32 := 1#32
  let v1681 : BitVec 32 := Scalar.select v1680 c1_i32_1132 c8_i32_1130
  let v1682 : BitVec 32 := Scalar.remsi v1679 v1681
  let c0_i32_1134 : BitVec 32 := 0#32
  let v1684 : BitVec 1 := Scalar.cmpi .slt v1682 c0_i32_1134
  let c0_i32_1135 : BitVec 32 := 0#32
  let v1685 : BitVec 1 := Scalar.cmpi .slt v1681 c0_i32_1135
  let v1686 : BitVec 1 := Scalar.xori v1684 v1685
  let c0_i32_1133 : BitVec 32 := 0#32
  let v1683 : BitVec 1 := Scalar.cmpi .ne v1682 c0_i32_1133
  let v1687 : BitVec 1 := Scalar.andi v1686 v1683
  let v1688 : BitVec 32 := Scalar.addi v1682 v1681
  let v1689 : BitVec 32 := Scalar.select v1687 v1688 v1682
  let c1_i32_1138 : BitVec 32 := 1#32
  let v1691 : BitVec 32 := Scalar.muli v1689 c1_i32_1138
  let v1692 : BitVec 32 := Scalar.addi c0_i32_1139 v1691
  v1692.toNat
def k0_dev51 (d0 : Dev nD) : Nat :=
  let c0_i32_1152 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1142 : BitVec 32 := 2#32
  let v1699 : BitVec 32 := Scalar.addi v2 c2_i32_1142
  let c8_i32_1143 : BitVec 32 := 8#32
  let c0_i32_1144 : BitVec 32 := 0#32
  let v1700 : BitVec 1 := Scalar.cmpi .eq c8_i32_1143 c0_i32_1144
  let c1_i32_1145 : BitVec 32 := 1#32
  let v1701 : BitVec 32 := Scalar.select v1700 c1_i32_1145 c8_i32_1143
  let v1702 : BitVec 32 := Scalar.remsi v1699 v1701
  let c0_i32_1147 : BitVec 32 := 0#32
  let v1704 : BitVec 1 := Scalar.cmpi .slt v1702 c0_i32_1147
  let c0_i32_1148 : BitVec 32 := 0#32
  let v1705 : BitVec 1 := Scalar.cmpi .slt v1701 c0_i32_1148
  let v1706 : BitVec 1 := Scalar.xori v1704 v1705
  let c0_i32_1146 : BitVec 32 := 0#32
  let v1703 : BitVec 1 := Scalar.cmpi .ne v1702 c0_i32_1146
  let v1707 : BitVec 1 := Scalar.andi v1706 v1703
  let v1708 : BitVec 32 := Scalar.addi v1702 v1701
  let v1709 : BitVec 32 := Scalar.select v1707 v1708 v1702
  let c1_i32_1151 : BitVec 32 := 1#32
  let v1711 : BitVec 32 := Scalar.muli v1709 c1_i32_1151
  let v1712 : BitVec 32 := Scalar.addi c0_i32_1152 v1711
  v1712.toNat
def k0_dev52 (d0 : Dev nD) : Nat :=
  let c0_i32_1165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1155 : BitVec 32 := 3#32
  let v1719 : BitVec 32 := Scalar.addi v2 c3_i32_1155
  let c8_i32_1156 : BitVec 32 := 8#32
  let c0_i32_1157 : BitVec 32 := 0#32
  let v1720 : BitVec 1 := Scalar.cmpi .eq c8_i32_1156 c0_i32_1157
  let c1_i32_1158 : BitVec 32 := 1#32
  let v1721 : BitVec 32 := Scalar.select v1720 c1_i32_1158 c8_i32_1156
  let v1722 : BitVec 32 := Scalar.remsi v1719 v1721
  let c0_i32_1160 : BitVec 32 := 0#32
  let v1724 : BitVec 1 := Scalar.cmpi .slt v1722 c0_i32_1160
  let c0_i32_1161 : BitVec 32 := 0#32
  let v1725 : BitVec 1 := Scalar.cmpi .slt v1721 c0_i32_1161
  let v1726 : BitVec 1 := Scalar.xori v1724 v1725
  let c0_i32_1159 : BitVec 32 := 0#32
  let v1723 : BitVec 1 := Scalar.cmpi .ne v1722 c0_i32_1159
  let v1727 : BitVec 1 := Scalar.andi v1726 v1723
  let v1728 : BitVec 32 := Scalar.addi v1722 v1721
  let v1729 : BitVec 32 := Scalar.select v1727 v1728 v1722
  let c1_i32_1164 : BitVec 32 := 1#32
  let v1731 : BitVec 32 := Scalar.muli v1729 c1_i32_1164
  let v1732 : BitVec 32 := Scalar.addi c0_i32_1165 v1731
  v1732.toNat
def k0_dev53 (d0 : Dev nD) : Nat :=
  let c0_i32_1178 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1168 : BitVec 32 := 4#32
  let v1739 : BitVec 32 := Scalar.addi v2 c4_i32_1168
  let c8_i32_1169 : BitVec 32 := 8#32
  let c0_i32_1170 : BitVec 32 := 0#32
  let v1740 : BitVec 1 := Scalar.cmpi .eq c8_i32_1169 c0_i32_1170
  let c1_i32_1171 : BitVec 32 := 1#32
  let v1741 : BitVec 32 := Scalar.select v1740 c1_i32_1171 c8_i32_1169
  let v1742 : BitVec 32 := Scalar.remsi v1739 v1741
  let c0_i32_1173 : BitVec 32 := 0#32
  let v1744 : BitVec 1 := Scalar.cmpi .slt v1742 c0_i32_1173
  let c0_i32_1174 : BitVec 32 := 0#32
  let v1745 : BitVec 1 := Scalar.cmpi .slt v1741 c0_i32_1174
  let v1746 : BitVec 1 := Scalar.xori v1744 v1745
  let c0_i32_1172 : BitVec 32 := 0#32
  let v1743 : BitVec 1 := Scalar.cmpi .ne v1742 c0_i32_1172
  let v1747 : BitVec 1 := Scalar.andi v1746 v1743
  let v1748 : BitVec 32 := Scalar.addi v1742 v1741
  let v1749 : BitVec 32 := Scalar.select v1747 v1748 v1742
  let c1_i32_1177 : BitVec 32 := 1#32
  let v1751 : BitVec 32 := Scalar.muli v1749 c1_i32_1177
  let v1752 : BitVec 32 := Scalar.addi c0_i32_1178 v1751
  v1752.toNat
def k0_dev54 (d0 : Dev nD) : Nat :=
  let c0_i32_1191 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1181 : BitVec 32 := 5#32
  let v1759 : BitVec 32 := Scalar.addi v2 c5_i32_1181
  let c8_i32_1182 : BitVec 32 := 8#32
  let c0_i32_1183 : BitVec 32 := 0#32
  let v1760 : BitVec 1 := Scalar.cmpi .eq c8_i32_1182 c0_i32_1183
  let c1_i32_1184 : BitVec 32 := 1#32
  let v1761 : BitVec 32 := Scalar.select v1760 c1_i32_1184 c8_i32_1182
  let v1762 : BitVec 32 := Scalar.remsi v1759 v1761
  let c0_i32_1186 : BitVec 32 := 0#32
  let v1764 : BitVec 1 := Scalar.cmpi .slt v1762 c0_i32_1186
  let c0_i32_1187 : BitVec 32 := 0#32
  let v1765 : BitVec 1 := Scalar.cmpi .slt v1761 c0_i32_1187
  let v1766 : BitVec 1 := Scalar.xori v1764 v1765
  let c0_i32_1185 : BitVec 32 := 0#32
  let v1763 : BitVec 1 := Scalar.cmpi .ne v1762 c0_i32_1185
  let v1767 : BitVec 1 := Scalar.andi v1766 v1763
  let v1768 : BitVec 32 := Scalar.addi v1762 v1761
  let v1769 : BitVec 32 := Scalar.select v1767 v1768 v1762
  let c1_i32_1190 : BitVec 32 := 1#32
  let v1771 : BitVec 32 := Scalar.muli v1769 c1_i32_1190
  let v1772 : BitVec 32 := Scalar.addi c0_i32_1191 v1771
  v1772.toNat
def k0_dev55 (d0 : Dev nD) : Nat :=
  let c0_i32_1204 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1194 : BitVec 32 := 6#32
  let v1779 : BitVec 32 := Scalar.addi v2 c6_i32_1194
  let c8_i32_1195 : BitVec 32 := 8#32
  let c0_i32_1196 : BitVec 32 := 0#32
  let v1780 : BitVec 1 := Scalar.cmpi .eq c8_i32_1195 c0_i32_1196
  let c1_i32_1197 : BitVec 32 := 1#32
  let v1781 : BitVec 32 := Scalar.select v1780 c1_i32_1197 c8_i32_1195
  let v1782 : BitVec 32 := Scalar.remsi v1779 v1781
  let c0_i32_1199 : BitVec 32 := 0#32
  let v1784 : BitVec 1 := Scalar.cmpi .slt v1782 c0_i32_1199
  let c0_i32_1200 : BitVec 32 := 0#32
  let v1785 : BitVec 1 := Scalar.cmpi .slt v1781 c0_i32_1200
  let v1786 : BitVec 1 := Scalar.xori v1784 v1785
  let c0_i32_1198 : BitVec 32 := 0#32
  let v1783 : BitVec 1 := Scalar.cmpi .ne v1782 c0_i32_1198
  let v1787 : BitVec 1 := Scalar.andi v1786 v1783
  let v1788 : BitVec 32 := Scalar.addi v1782 v1781
  let v1789 : BitVec 32 := Scalar.select v1787 v1788 v1782
  let c1_i32_1203 : BitVec 32 := 1#32
  let v1791 : BitVec 32 := Scalar.muli v1789 c1_i32_1203
  let v1792 : BitVec 32 := Scalar.addi c0_i32_1204 v1791
  v1792.toNat
def k0_dev56 (d0 : Dev nD) : Nat :=
  let c0_i32_1217 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1207 : BitVec 32 := 7#32
  let v1799 : BitVec 32 := Scalar.addi v2 c7_i32_1207
  let c8_i32_1208 : BitVec 32 := 8#32
  let c0_i32_1209 : BitVec 32 := 0#32
  let v1800 : BitVec 1 := Scalar.cmpi .eq c8_i32_1208 c0_i32_1209
  let c1_i32_1210 : BitVec 32 := 1#32
  let v1801 : BitVec 32 := Scalar.select v1800 c1_i32_1210 c8_i32_1208
  let v1802 : BitVec 32 := Scalar.remsi v1799 v1801
  let c0_i32_1212 : BitVec 32 := 0#32
  let v1804 : BitVec 1 := Scalar.cmpi .slt v1802 c0_i32_1212
  let c0_i32_1213 : BitVec 32 := 0#32
  let v1805 : BitVec 1 := Scalar.cmpi .slt v1801 c0_i32_1213
  let v1806 : BitVec 1 := Scalar.xori v1804 v1805
  let c0_i32_1211 : BitVec 32 := 0#32
  let v1803 : BitVec 1 := Scalar.cmpi .ne v1802 c0_i32_1211
  let v1807 : BitVec 1 := Scalar.andi v1806 v1803
  let v1808 : BitVec 32 := Scalar.addi v1802 v1801
  let v1809 : BitVec 32 := Scalar.select v1807 v1808 v1802
  let c1_i32_1216 : BitVec 32 := 1#32
  let v1811 : BitVec 32 := Scalar.muli v1809 c1_i32_1216
  let v1812 : BitVec 32 := Scalar.addi c0_i32_1217 v1811
  v1812.toNat
def k0_dev57 (d0 : Dev nD) : Nat :=
  let c0_i32_1372 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1362 : BitVec 32 := 1#32
  let v2027 : BitVec 32 := Scalar.addi v2 c1_i32_1362
  let c8_i32_1363 : BitVec 32 := 8#32
  let c0_i32_1364 : BitVec 32 := 0#32
  let v2028 : BitVec 1 := Scalar.cmpi .eq c8_i32_1363 c0_i32_1364
  let c1_i32_1365 : BitVec 32 := 1#32
  let v2029 : BitVec 32 := Scalar.select v2028 c1_i32_1365 c8_i32_1363
  let v2030 : BitVec 32 := Scalar.remsi v2027 v2029
  let c0_i32_1367 : BitVec 32 := 0#32
  let v2032 : BitVec 1 := Scalar.cmpi .slt v2030 c0_i32_1367
  let c0_i32_1368 : BitVec 32 := 0#32
  let v2033 : BitVec 1 := Scalar.cmpi .slt v2029 c0_i32_1368
  let v2034 : BitVec 1 := Scalar.xori v2032 v2033
  let c0_i32_1366 : BitVec 32 := 0#32
  let v2031 : BitVec 1 := Scalar.cmpi .ne v2030 c0_i32_1366
  let v2035 : BitVec 1 := Scalar.andi v2034 v2031
  let v2036 : BitVec 32 := Scalar.addi v2030 v2029
  let v2037 : BitVec 32 := Scalar.select v2035 v2036 v2030
  let c1_i32_1371 : BitVec 32 := 1#32
  let v2039 : BitVec 32 := Scalar.muli v2037 c1_i32_1371
  let v2040 : BitVec 32 := Scalar.addi c0_i32_1372 v2039
  v2040.toNat
def k0_dev58 (d0 : Dev nD) : Nat :=
  let c0_i32_1385 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1375 : BitVec 32 := 2#32
  let v2047 : BitVec 32 := Scalar.addi v2 c2_i32_1375
  let c8_i32_1376 : BitVec 32 := 8#32
  let c0_i32_1377 : BitVec 32 := 0#32
  let v2048 : BitVec 1 := Scalar.cmpi .eq c8_i32_1376 c0_i32_1377
  let c1_i32_1378 : BitVec 32 := 1#32
  let v2049 : BitVec 32 := Scalar.select v2048 c1_i32_1378 c8_i32_1376
  let v2050 : BitVec 32 := Scalar.remsi v2047 v2049
  let c0_i32_1380 : BitVec 32 := 0#32
  let v2052 : BitVec 1 := Scalar.cmpi .slt v2050 c0_i32_1380
  let c0_i32_1381 : BitVec 32 := 0#32
  let v2053 : BitVec 1 := Scalar.cmpi .slt v2049 c0_i32_1381
  let v2054 : BitVec 1 := Scalar.xori v2052 v2053
  let c0_i32_1379 : BitVec 32 := 0#32
  let v2051 : BitVec 1 := Scalar.cmpi .ne v2050 c0_i32_1379
  let v2055 : BitVec 1 := Scalar.andi v2054 v2051
  let v2056 : BitVec 32 := Scalar.addi v2050 v2049
  let v2057 : BitVec 32 := Scalar.select v2055 v2056 v2050
  let c1_i32_1384 : BitVec 32 := 1#32
  let v2059 : BitVec 32 := Scalar.muli v2057 c1_i32_1384
  let v2060 : BitVec 32 := Scalar.addi c0_i32_1385 v2059
  v2060.toNat
def k0_dev59 (d0 : Dev nD) : Nat :=
  let c0_i32_1398 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1388 : BitVec 32 := 3#32
  let v2067 : BitVec 32 := Scalar.addi v2 c3_i32_1388
  let c8_i32_1389 : BitVec 32 := 8#32
  let c0_i32_1390 : BitVec 32 := 0#32
  let v2068 : BitVec 1 := Scalar.cmpi .eq c8_i32_1389 c0_i32_1390
  let c1_i32_1391 : BitVec 32 := 1#32
  let v2069 : BitVec 32 := Scalar.select v2068 c1_i32_1391 c8_i32_1389
  let v2070 : BitVec 32 := Scalar.remsi v2067 v2069
  let c0_i32_1393 : BitVec 32 := 0#32
  let v2072 : BitVec 1 := Scalar.cmpi .slt v2070 c0_i32_1393
  let c0_i32_1394 : BitVec 32 := 0#32
  let v2073 : BitVec 1 := Scalar.cmpi .slt v2069 c0_i32_1394
  let v2074 : BitVec 1 := Scalar.xori v2072 v2073
  let c0_i32_1392 : BitVec 32 := 0#32
  let v2071 : BitVec 1 := Scalar.cmpi .ne v2070 c0_i32_1392
  let v2075 : BitVec 1 := Scalar.andi v2074 v2071
  let v2076 : BitVec 32 := Scalar.addi v2070 v2069
  let v2077 : BitVec 32 := Scalar.select v2075 v2076 v2070
  let c1_i32_1397 : BitVec 32 := 1#32
  let v2079 : BitVec 32 := Scalar.muli v2077 c1_i32_1397
  let v2080 : BitVec 32 := Scalar.addi c0_i32_1398 v2079
  v2080.toNat
def k0_dev60 (d0 : Dev nD) : Nat :=
  let c0_i32_1411 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1401 : BitVec 32 := 4#32
  let v2087 : BitVec 32 := Scalar.addi v2 c4_i32_1401
  let c8_i32_1402 : BitVec 32 := 8#32
  let c0_i32_1403 : BitVec 32 := 0#32
  let v2088 : BitVec 1 := Scalar.cmpi .eq c8_i32_1402 c0_i32_1403
  let c1_i32_1404 : BitVec 32 := 1#32
  let v2089 : BitVec 32 := Scalar.select v2088 c1_i32_1404 c8_i32_1402
  let v2090 : BitVec 32 := Scalar.remsi v2087 v2089
  let c0_i32_1406 : BitVec 32 := 0#32
  let v2092 : BitVec 1 := Scalar.cmpi .slt v2090 c0_i32_1406
  let c0_i32_1407 : BitVec 32 := 0#32
  let v2093 : BitVec 1 := Scalar.cmpi .slt v2089 c0_i32_1407
  let v2094 : BitVec 1 := Scalar.xori v2092 v2093
  let c0_i32_1405 : BitVec 32 := 0#32
  let v2091 : BitVec 1 := Scalar.cmpi .ne v2090 c0_i32_1405
  let v2095 : BitVec 1 := Scalar.andi v2094 v2091
  let v2096 : BitVec 32 := Scalar.addi v2090 v2089
  let v2097 : BitVec 32 := Scalar.select v2095 v2096 v2090
  let c1_i32_1410 : BitVec 32 := 1#32
  let v2099 : BitVec 32 := Scalar.muli v2097 c1_i32_1410
  let v2100 : BitVec 32 := Scalar.addi c0_i32_1411 v2099
  v2100.toNat
def k0_dev61 (d0 : Dev nD) : Nat :=
  let c0_i32_1424 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1414 : BitVec 32 := 5#32
  let v2107 : BitVec 32 := Scalar.addi v2 c5_i32_1414
  let c8_i32_1415 : BitVec 32 := 8#32
  let c0_i32_1416 : BitVec 32 := 0#32
  let v2108 : BitVec 1 := Scalar.cmpi .eq c8_i32_1415 c0_i32_1416
  let c1_i32_1417 : BitVec 32 := 1#32
  let v2109 : BitVec 32 := Scalar.select v2108 c1_i32_1417 c8_i32_1415
  let v2110 : BitVec 32 := Scalar.remsi v2107 v2109
  let c0_i32_1419 : BitVec 32 := 0#32
  let v2112 : BitVec 1 := Scalar.cmpi .slt v2110 c0_i32_1419
  let c0_i32_1420 : BitVec 32 := 0#32
  let v2113 : BitVec 1 := Scalar.cmpi .slt v2109 c0_i32_1420
  let v2114 : BitVec 1 := Scalar.xori v2112 v2113
  let c0_i32_1418 : BitVec 32 := 0#32
  let v2111 : BitVec 1 := Scalar.cmpi .ne v2110 c0_i32_1418
  let v2115 : BitVec 1 := Scalar.andi v2114 v2111
  let v2116 : BitVec 32 := Scalar.addi v2110 v2109
  let v2117 : BitVec 32 := Scalar.select v2115 v2116 v2110
  let c1_i32_1423 : BitVec 32 := 1#32
  let v2119 : BitVec 32 := Scalar.muli v2117 c1_i32_1423
  let v2120 : BitVec 32 := Scalar.addi c0_i32_1424 v2119
  v2120.toNat
def k0_dev62 (d0 : Dev nD) : Nat :=
  let c0_i32_1437 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1427 : BitVec 32 := 6#32
  let v2127 : BitVec 32 := Scalar.addi v2 c6_i32_1427
  let c8_i32_1428 : BitVec 32 := 8#32
  let c0_i32_1429 : BitVec 32 := 0#32
  let v2128 : BitVec 1 := Scalar.cmpi .eq c8_i32_1428 c0_i32_1429
  let c1_i32_1430 : BitVec 32 := 1#32
  let v2129 : BitVec 32 := Scalar.select v2128 c1_i32_1430 c8_i32_1428
  let v2130 : BitVec 32 := Scalar.remsi v2127 v2129
  let c0_i32_1432 : BitVec 32 := 0#32
  let v2132 : BitVec 1 := Scalar.cmpi .slt v2130 c0_i32_1432
  let c0_i32_1433 : BitVec 32 := 0#32
  let v2133 : BitVec 1 := Scalar.cmpi .slt v2129 c0_i32_1433
  let v2134 : BitVec 1 := Scalar.xori v2132 v2133
  let c0_i32_1431 : BitVec 32 := 0#32
  let v2131 : BitVec 1 := Scalar.cmpi .ne v2130 c0_i32_1431
  let v2135 : BitVec 1 := Scalar.andi v2134 v2131
  let v2136 : BitVec 32 := Scalar.addi v2130 v2129
  let v2137 : BitVec 32 := Scalar.select v2135 v2136 v2130
  let c1_i32_1436 : BitVec 32 := 1#32
  let v2139 : BitVec 32 := Scalar.muli v2137 c1_i32_1436
  let v2140 : BitVec 32 := Scalar.addi c0_i32_1437 v2139
  v2140.toNat
def k0_dev63 (d0 : Dev nD) : Nat :=
  let c0_i32_1450 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1440 : BitVec 32 := 7#32
  let v2147 : BitVec 32 := Scalar.addi v2 c7_i32_1440
  let c8_i32_1441 : BitVec 32 := 8#32
  let c0_i32_1442 : BitVec 32 := 0#32
  let v2148 : BitVec 1 := Scalar.cmpi .eq c8_i32_1441 c0_i32_1442
  let c1_i32_1443 : BitVec 32 := 1#32
  let v2149 : BitVec 32 := Scalar.select v2148 c1_i32_1443 c8_i32_1441
  let v2150 : BitVec 32 := Scalar.remsi v2147 v2149
  let c0_i32_1445 : BitVec 32 := 0#32
  let v2152 : BitVec 1 := Scalar.cmpi .slt v2150 c0_i32_1445
  let c0_i32_1446 : BitVec 32 := 0#32
  let v2153 : BitVec 1 := Scalar.cmpi .slt v2149 c0_i32_1446
  let v2154 : BitVec 1 := Scalar.xori v2152 v2153
  let c0_i32_1444 : BitVec 32 := 0#32
  let v2151 : BitVec 1 := Scalar.cmpi .ne v2150 c0_i32_1444
  let v2155 : BitVec 1 := Scalar.andi v2154 v2151
  let v2156 : BitVec 32 := Scalar.addi v2150 v2149
  let v2157 : BitVec 32 := Scalar.select v2155 v2156 v2150
  let c1_i32_1449 : BitVec 32 := 1#32
  let v2159 : BitVec 32 := Scalar.muli v2157 c1_i32_1449
  let v2160 : BitVec 32 := Scalar.addi c0_i32_1450 v2159
  v2160.toNat
abbrev stage0_0 : Fin 1 → Memref sig .tc .vmem S1x1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S8x1024x1024 : Shape := ⟨3, ![8, 1024, 1024]⟩
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8x1024x1024, .bf16⟩
  | .hbm, ⟨1, _⟩ => ⟨S1024x1024, .bf16⟩
  | .hbm, ⟨2, _⟩ => ⟨S1024, .bf16⟩
  | .hbm, ⟨3, _⟩ => ⟨S8x1024x1024, .f32⟩
  | .hbm, ⟨4, _⟩ => ⟨S1024x1024, .f32⟩
  | .hbm, ⟨5, _⟩ => ⟨S1024, .f32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S_, .f32⟩
  | .hbm, ⟨17, _⟩ => ⟨S1024x1, .f32⟩
  | .hbm, ⟨18, _⟩ => ⟨S1024x1, .f32⟩
  | .hbm, ⟨19, _⟩ => ⟨S1024x1, .f32⟩
  | .hbm, ⟨20, _⟩ => ⟨S1024x1024, .f32⟩
  | .hbm, ⟨21, _⟩ => ⟨S1024x1024, .f32⟩
  | .hbm, ⟨22, _⟩ => ⟨S1x1024, .f32⟩
  | .hbm, ⟨23, _⟩ => ⟨S1024x1024, .f32⟩
  | .hbm, ⟨24, _⟩ => ⟨S1024x1024, .f32⟩
  | .hbm, ⟨25, _⟩ => ⟨S1024x1024, .bf16⟩
  | _, _ => ⟨S8x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Proof.Mesh.lean ====
/-
# `Mesh`: the eight devices, the steps of the two exchanges and the semaphores that count them

Device `c` exchanges with its seven peers in the order `c + 1, …, c + 7` (modulo 8), once for each of the four
row blocks `w` of a chunk. Step `j` of the 28 is peer `kOf j` of block `wOf j`. The facts here are about the
kernel's own address arithmetic: which device a step names, which rows and which semaphore.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.AllReduce

open Cert.KernelIdeal Cert.KernelIdeal.Gen

open Idealize.ShloMosaic
open Idealize.ShloMosaic.TcCoe
open Idealize.SL.Sem

/-! ## Peers and steps -/

/-- The peer of device `c` at offset `k + 1` around the mesh. -/
def nb (c : Dev nD) (k : Fin 7) : Dev nD := ⟨(c.val + k.val + 1) % 8, Nat.mod_lt _ (by decide)⟩

/-- The peer of step `j`, counted around the mesh. -/
def kOf (j : ℕ) : Fin 7 := ⟨j % 7, Nat.mod_lt _ (by decide)⟩
/-- The row block of step `j`. -/
def wOf (j : ℕ) : Fin 4 := ⟨j / 7 % 4, Nat.mod_lt _ (by decide)⟩

theorem nb_ne (c : Dev nD) (k : Fin 7) : nb c k ≠ c := by revert c k; decide
theorem nb_inj (c : Dev nD) : Function.Injective (nb c) := by revert c; decide
theorem nb_surj (c : Dev nD) : ∀ d, d ≠ c → ∃ k, nb c k = d := by revert c; decide
/-- Going on by the mirrored offset comes back. -/
theorem nb_rev (c : Dev nD) (k : Fin 7) : nb (nb c k) k.rev = c := by revert c k; decide

/-! ## The addresses the kernel computes -/

theorem dev_bar (c : Dev nD) :
    (⟨k0_dev1 c, k0_dev1_lt c⟩ : Dev nD) = nb c 0 ∧ (⟨k0_dev2 c, k0_dev2_lt c⟩ : Dev nD) = nb c 1
      ∧ (⟨k0_dev3 c, k0_dev3_lt c⟩ : Dev nD) = nb c 2 ∧ (⟨k0_dev4 c, k0_dev4_lt c⟩ : Dev nD) = nb c 3
      ∧ (⟨k0_dev5 c, k0_dev5_lt c⟩ : Dev nD) = nb c 4 ∧ (⟨k0_dev6 c, k0_dev6_lt c⟩ : Dev nD) = nb c 5
      ∧ (⟨k0_dev7 c, k0_dev7_lt c⟩ : Dev nD) = nb c 6 := by
  revert c; decide +kernel

/-- The device a transfer at offset `x` names: the arithmetic of every `device_id` operand of the kernel's transfers. -/
def devAt (c : Dev nD) (x : BitVec 32) : ℕ :=
  let a : BitVec 32 := Scalar.remsi (Scalar.divsi (Dev.word c) 1#32) 8#32
  let n : BitVec 32 := Scalar.select (Scalar.cmpi .eq 8#32 0#32) 1#32 8#32
  let q : BitVec 32 := Scalar.remsi (Scalar.addi a x) n
  let b : BitVec 1 := Scalar.andi (Scalar.xori (Scalar.cmpi .slt q 0#32) (Scalar.cmpi .slt n 0#32)) (Scalar.cmpi .ne q 0#32)
  (Scalar.addi 0#32 (Scalar.muli (Scalar.select b (Scalar.addi q n) q) 1#32)).toNat

theorem dev_at (c : Dev nD) (k : Fin 7) : devAt c (BitVec.ofNat 32 (1 + k.val)) = (nb c k).val := by
  revert c k; decide +kernel

theorem off1_at (c : Dev nD) (w : Fin 4) : k0_off1 c (BitVec.ofNat 32 (8 * w.val)) = ![8 * w.val + c.val] := by
  revert c w; decide +kernel
theorem off2_at (c : Dev nD) (w : Fin 4) : k0_off2 c (BitVec.ofNat 32 (8 * w.val)) = ![8 * w.val + c.val, 0, 0] := by
  revert c w; decide +kernel
theorem off3_at (c : Dev nD) (k : Fin 7) (w : Fin 4) :
    k0_off3 c (BitVec.ofNat 32 (1 + k.val)) (BitVec.ofNat 32 (32 * w.val)) = ![128 * (nb c k).val + 32 * w.val, 0] := by
  revert c k w; decide +kernel
theorem off4_at (c : Dev nD) (w : Fin 4) : k0_off4 c (BitVec.ofNat 32 (32 * w.val)) = ![0, 128 * c.val + 32 * w.val, 0] := by
  revert c w; decide +kernel
theorem off5_at (c : Dev nD) (w : Fin 4) : k0_off5 c (BitVec.ofNat 32 (32 * w.val)) = ![128 * c.val + 32 * w.val, 0] := by
  revert c w; decide +kernel
theorem off6_at (c : Dev nD) (w : Fin 4) (k : Fin 7) :
    k0_off6 c (BitVec.ofNat 32 (8 * w.val)) (BitVec.ofNat 32 (1 + k.val)) = ![8 * w.val + (nb c k).val] := by
  revert c k w; decide +kernel
theorem off7_at (c : Dev nD) (w : Fin 4) (k : Fin 7) :
    k0_off7 c (BitVec.ofNat 32 (8 * w.val)) (BitVec.ofNat 32 (1 + k.val)) = ![8 * w.val + (nb c k).val, 0, 0] := by
  revert c k w; decide +kernel
theorem off8_at (c : Dev nD) (w : Fin 4) (k : Fin 7) :
    k0_off8 c (BitVec.ofNat 32 (8 * w.val)) (BitVec.ofNat 32 (1 + k.val)) = ![8 * w.val + (nb c k).val, 0, 0] := by
  revert c k w; decide +kernel
theorem off9_at (c : Dev nD) (w : Fin 4) : k0_off9 c (BitVec.ofNat 32 (32 * w.val)) = ![128 * c.val + 32 * w.val, 0] := by
  revert c w; decide +kernel

/-! ## The semaphores -/

/-- The runtime's barrier semaphore. -/
abbrev barS : Sem sig := (SemArray.scalar (sig.barrier 0 rfl) : Sems sig S_).sem
/-- The 28 semaphores of the first exchange's departures, the 32 of its arrivals, and the same for the second. -/
def sS (w : Fin 4) (k : Fin 7) : DmaSem sig := ⟨4 + (7 * w.val + k.val), by show _ < 124; omega⟩
def rS (w : Fin 4) (s : Dev nD) : DmaSem sig := ⟨32 + (8 * w.val + s.val), by have : s.val < 8 := s.isLt; show _ < 124; omega⟩
def bS (w : Fin 4) (k : Fin 7) : DmaSem sig := ⟨64 + (7 * w.val + k.val), by show _ < 124; omega⟩
def vS (w : Fin 4) (s : Dev nD) : DmaSem sig := ⟨92 + (8 * w.val + s.val), by have : s.val < 8 := s.isLt; show _ < 124; omega⟩

/-- The semaphore at one place of an array of consecutive ones. -/
theorem sem_at {N base n : ℕ} {h : base + (⟨1, ![n]⟩ : Shape).numel ≤ N} {off : Fin 1 → ℕ}
    (hin : ∀ a, off a + S1.size a ≤ (⟨1, ![n]⟩ : Shape).size a) (sq : (Rect.unit (s := ⟨1, ![n]⟩) off S1.size hin).shape.Squeezes S_) :
    (((SemArray.consecutive (n := N) base ⟨1, ![n]⟩ h).slice (Rect.unit off S1.size hin)).squeeze S_ sq).sem.val = base + off 0 := by
  show base + ((⟨1, ![n]⟩ : Shape).rowMajor _).val = _
  rw [Shape.rowMajor_val_one]
  congr 1
  show off 0 + 1 * _ = _
  have : ∀ x : Fin 1, off 0 + 1 * x.val = off 0 := fun x => by omega
  exact this _

theorem sS_eq {w : Fin 4} {k : Fin 7} {off : Fin 1 → ℕ} (h : off 0 = 7 * w.val + k.val) (hin) (sq) :
    ((cc0_scratch2.slice (Rect.unit (s := S28) off S1.size hin)).squeeze S_ sq).sem = sS w k :=
  Fin.ext ((sem_at hin sq).trans (by rw [h]; rfl))
theorem rS_eq {w : Fin 4} {s : Dev nD} {off : Fin 1 → ℕ} (h : off = ![8 * w.val + s.val]) (hin) (sq) :
    ((cc0_scratch3.slice (Rect.unit (s := S32) off S1.size hin)).squeeze S_ sq).sem = rS w s :=
  Fin.ext ((sem_at hin sq).trans (by rw [h]; rfl))
theorem bS_eq {w : Fin 4} {k : Fin 7} {off : Fin 1 → ℕ} (h : off 0 = 7 * w.val + k.val) (hin) (sq) :
    ((cc0_scratch4.slice (Rect.unit (s := S28) off S1.size hin)).squeeze S_ sq).sem = bS w k :=
  Fin.ext ((sem_at hin sq).trans (by rw [h]; rfl))
theorem vS_eq {w : Fin 4} {s : Dev nD} {off : Fin 1 → ℕ} (h : off = ![8 * w.val + s.val]) (hin) (sq) :
    ((cc0_scratch5.slice (Rect.unit (s := S32) off S1.size hin)).squeeze S_ sq).sem = vS w s :=
  Fin.ext ((sem_at hin sq).trans (by rw [h]; rfl))

/-! ## The buffers -/

abbrev xM : Memref sig .tc .vmem S1x1024x1024 .bf16 := Memref.whole cc0_stg0_0
abbrev rM : Memref sig .tc .vmem S1024x1024 .bf16 := Memref.whole cc0_stg1_0
abbrev gM : Memref sig .tc .vmem S1024 .bf16 := Memref.whole cc0_stg2_0
abbrev oM : Memref sig .tc .vmem S1024x1024 .bf16 := Memref.whole cc0_stg3_0
/-- This device's addend, in the layout it is sent from. -/
abbrev xbM : Memref sig .tc .vmem S1024x1024 .bf16 := Memref.whole cc0_scratch0
/-- Where the peers' addends arrive. -/
abbrev vM : Memref sig .tc .vmem S32x32x1024 .bf16 := Memref.whole cc0_scratch1

/-- What a block of 32 rows counts on a transfer's semaphore. -/
abbrev N : ℕ := (cc0_scratch0 : Ref sig .tc).dmaCredit S32x1024 .bf16

theorem credit_v : (cc0_scratch1 : Ref sig .tc).dmaCredit S32x1024 .bf16 = N := rfl
theorem credit_o : (cc0_stg3_0 : Ref sig .tc).dmaCredit S32x1024 .bf16 = N := rfl
theorem N_pos : 0 < N := sig.dmaCredit_pos _ _ _ _ _ (by decide)

end Cert.AllReduce

end
-- ==== Proof.Blocks.lean ====
/-
# `Blocks`: the row blocks the devices exchange, and what each buffer holds

A chunk of 128 rows belongs to each device; the kernel cuts it into four blocks of 32 rows. `rowSet s w` is block
`w` of device `s`'s chunk in a 1024-row buffer, `slotSet w s` the place where device `s`'s addend of block `w`
arrives. The contents are functions of the memory at launch: `xbF` what a device sends, `recvF` what it has received,
`outF` the result, the same on every device.
-/
module

public import proofs.«01_k».proof.Proof.Mesh
public import Idealize.ShloMosaic.Lib.ValueLayout
public import Idealize.ShloMosaic.Lib.ViewIndex
public import Idealize.ShloMosaic.Lib.Ring
public import Idealize.ShloMosaic.Lib.ShareLeaves

@[expose] public section

noncomputable section

namespace Cert.AllReduce

open Cert.KernelIdeal Cert.KernelIdeal.Gen

open Idealize.ShloMosaic
open Idealize.ShloMosaic.TcCoe
open Idealize.ShloMosaic.ValueIdx
open Idealize.SL.Sem

variable {F : FTy → Type} [FloatOps F]

/-! ## Row blocks -/

/-- Block `w` of device `s`'s chunk of rows. -/
def rowSet (s : Dev nD) (w : Fin 4) : Finset S1024x1024.Idx :=
  Finset.univ.filter fun i => 128 * s.val + 32 * w.val ≤ (i 0).val ∧ (i 0).val < 128 * s.val + 32 * w.val + 32
/-- The place of device `s`'s addend of block `w`. -/
def slotSet (w : Fin 4) (s : Dev nD) : Finset S32x32x1024.Idx :=
  Finset.univ.filter fun i => (i 0).val = 8 * w.val + s.val

theorem mem_rowSet {s : Dev nD} {w : Fin 4} {i : S1024x1024.Idx} :
    i ∈ rowSet s w ↔ 128 * s.val + 32 * w.val ≤ (i 0).val ∧ (i 0).val < 128 * s.val + 32 * w.val + 32 := by
  unfold rowSet; rw [Finset.mem_filter]; exact ⟨fun h => h.2, fun h => ⟨Finset.mem_univ _, h⟩⟩
theorem mem_slotSet {w : Fin 4} {s : Dev nD} {i : S32x32x1024.Idx} : i ∈ slotSet w s ↔ (i 0).val = 8 * w.val + s.val := by
  unfold slotSet; rw [Finset.mem_filter]; exact ⟨fun h => h.2, fun h => ⟨Finset.mem_univ _, h⟩⟩

theorem dev_lt (s : Dev nD) : s.val < 8 := s.isLt
theorem row_lt (i : S1024x1024.Idx) : (i 0).val < 1024 := (i 0).isLt
theorem slot_lt (i : S32x32x1024.Idx) : (i 0).val < 32 := (i 0).isLt
theorem inner_lt (i : S32x32x1024.Idx) : (i 1).val < 32 := (i 1).isLt

theorem rowSet_disjoint (p p' : Dev nD × Fin 4) (h : p ≠ p') : Disjoint (rowSet p.1 p.2) (rowSet p'.1 p'.2) := by
  rw [Finset.disjoint_left]
  intro i hi hi'
  rw [mem_rowSet] at hi hi'
  have := p.2.isLt; have := p'.2.isLt
  exact h (Prod.ext (Fin.ext (by omega)) (Fin.ext (by omega)))
theorem slotSet_disjoint (p p' : Dev nD × Fin 4) (h : p ≠ p') : Disjoint (slotSet p.2 p.1) (slotSet p'.2 p'.1) := by
  rw [Finset.disjoint_left]
  intro i hi hi'
  rw [mem_slotSet] at hi hi'
  have := dev_lt p.1; have := dev_lt p'.1
  exact h (Prod.ext (Fin.ext (by omega)) (Fin.ext (by omega)))

/-- Whose chunk a row lies in, and in which block of it. -/
def rowOwner (i : S1024x1024.Idx) : Dev nD := ⟨(i 0).val / 128, by have := row_lt i; show _ < 8; omega⟩
def rowBlock (i : S1024x1024.Idx) : Fin 4 := ⟨(i 0).val / 32 % 4, Nat.mod_lt _ (by decide)⟩
def slotOwner (i : S32x32x1024.Idx) : Dev nD := ⟨(i 0).val % 8, Nat.mod_lt _ (by decide)⟩
def slotBlock (i : S32x32x1024.Idx) : Fin 4 := ⟨(i 0).val / 8, by have := slot_lt i; omega⟩

theorem rowSet_cover : (Finset.univ.biUnion fun p : Dev nD × Fin 4 => rowSet p.1 p.2) = Finset.univ := by
  refine Finset.eq_univ_of_forall fun i => Finset.mem_biUnion.mpr ⟨(rowOwner i, rowBlock i), Finset.mem_univ _, mem_rowSet.mpr ?_⟩
  have := row_lt i; simp only [rowOwner, rowBlock]; omega
theorem slotSet_cover : (Finset.univ.biUnion fun p : Dev nD × Fin 4 => slotSet p.2 p.1) = Finset.univ := by
  refine Finset.eq_univ_of_forall fun i => Finset.mem_biUnion.mpr ⟨(slotOwner i, slotBlock i), Finset.mem_univ _, mem_slotSet.mpr ?_⟩
  have := slot_lt i; simp only [slotOwner, slotBlock]; omega

theorem rowOwner_of_mem {s : Dev nD} {w : Fin 4} {i : S1024x1024.Idx} (h : i ∈ rowSet s w) : rowOwner i = s ∧ rowBlock i = w := by
  rw [mem_rowSet] at h
  have := dev_lt s; have := w.isLt
  exact ⟨Fin.ext (by simp only [rowOwner]; omega), Fin.ext (by simp only [rowBlock]; omega)⟩
theorem slotOwner_of_mem {w : Fin 4} {s : Dev nD} {i : S32x32x1024.Idx} (h : i ∈ slotSet w s) : slotOwner i = s ∧ slotBlock i = w := by
  rw [mem_slotSet] at h
  have := dev_lt s; have := w.isLt
  exact ⟨Fin.ext (by simp only [slotOwner]; omega), Fin.ext (by simp only [slotBlock]; omega)⟩

/-! ## Contents -/

variable (m : (ℓ : Loc nD τ sig) → Buf (Elt F) ℓ)

/-- Device `c`'s addend, its copy of the residual and of the scale, as its pipeline stages them. -/
def xin (c : Dev nD) : (cc0_stg0_0 : Ref sig .tc).ty.Contents (Elt F) :=
  (win0_0.blk (0 : Fin 1)).view.read (Elt F) (m ((c : Thread nD τ).loc main_arg0))
def rin (c : Dev nD) : (cc0_stg1_0 : Ref sig .tc).ty.Contents (Elt F) :=
  (win0_1.blk (0 : Fin 1)).view.read (Elt F) (m ((c : Thread nD τ).loc main_arg1))
def gin (c : Dev nD) : (cc0_stg2_0 : Ref sig .tc).ty.Contents (Elt F) :=
  (win0_2.blk (0 : Fin 1)).view.read (Elt F) (m ((c : Thread nD τ).loc main_arg2))

/-- The addend as device `c` sends it. -/
def xbF (c : Dev nD) : (cc0_scratch0 : Ref sig .tc).ty.Contents (Elt F) := k0_pay1 (xin m c)

/-- Row `r` of block `w` of a device's chunk. -/
def row (s : Dev nD) (w : Fin 4) (r : Fin 32) : Fin 1024 :=
  ⟨128 * s.val + 32 * w.val + r.val, by have := dev_lt s; omega⟩

/-- What arrives at device `c`: in each place the sender's rows of `c`'s chunk. -/
def recvF (c : Dev nD) : (cc0_scratch1 : Ref sig .tc).ty.Contents (Elt F) :=
  fun i : S32x32x1024.Idx => xbF m (slotOwner i) (ix2 (row c (slotBlock i) (i 1)) (i 2))

/-- The block of device `c`'s own addend, of its residual, and of a peer's addend. -/
def xrow (c : Dev nD) (w : Fin 4) : Vec F S1x32x1024 .bf16 := fun i => xin m c (ix3 (i 0) (row c w (i 1)) (i 2))
def rrow (c : Dev nD) (w : Fin 4) : Vec F S32x1024 .bf16 := fun i => rin m c (ix2 (row c w (i 0)) (i 1))
def vrow (c : Dev nD) (w : Fin 4) (k : Fin 7) : Vec F S1x32x1024 .bf16 :=
  fun i => xbF m (nb c k) (ix2 (row c w (i 1)) (i 2))

/-- The result of one block from its eight addends, the residual rows and the scale: the kernel's own arithmetic. -/
def norm (g : Vec F S1024 .bf16) (x : Vec F S1x32x1024 .bf16) (r : Vec F S32x1024 .bf16) (v : Fin 7 → Vec F S1x32x1024 .bf16) :
    FVec F S32x1024 .bf16 :=
  k0_pay9 (k0_pay2 g) (k0_pay8 (k0_pay7 (k0_pay6 (k0_pay5 (k0_pay4 (k0_pay3 x) r (v 0)) (v 1)) (v 2)) (v 3) (v 4)) (v 5)) (v 6)

/-- Block `w` of device `c`'s chunk of the result. -/
def yBlk (c : Dev nD) (w : Fin 4) : FVec F S32x1024 .bf16 := norm (gin m c) (xrow m c w) (rrow m c w) (vrow m c w)

/-- The result. -/
def outF : (cc0_stg3_0 : Ref sig .tc).ty.Contents (Elt F) :=
  fun i : S1024x1024.Idx => yBlk m (rowOwner i) (rowBlock i) (ix2 ⟨(i 0).val % 32, Nat.mod_lt _ (by decide)⟩ (i 1))

/-! ## What the loads read -/

omit [FloatOps F] in
theorem read_x (c : Dev nD) (h) : xM.view.readAt (Elt F) (Rect.unit (s := S1x1024x1024) ![0, 0, 0] S1x1024x1024.size h).toLoadRect (xin m c) = xin m c :=
  Memref.readAt_unit_zero (Elt F) cc0_stg0_0 (funext fun a => by fin_cases a <;> rfl) _ _
omit [FloatOps F] in
theorem read_g (c : Dev nD) (h) : gM.view.readAt (Elt F) (Rect.unit (s := S1024) ![0] S1024.size h).toLoadRect (gin m c) = gin m c :=
  Memref.readAt_unit_zero (Elt F) cc0_stg2_0 (funext fun a => by fin_cases a; rfl) _ _

omit [FloatOps F] in
theorem read_xrow (c : Dev nD) (w : Fin 4) {off : Fin 3 → ℕ} (h : off = ![0, 128 * c.val + 32 * w.val, 0]) (hin) :
    xM.view.readAt (Elt F) (Rect.unit (s := S1x1024x1024) off S1x32x1024.size hin).toLoadRect (xin m c) = xrow m c w := by
  subst h
  funext i
  refine congrArg (xin m c) (funext fun a => Fin.ext ?_)
  match a with
  | ⟨0, _⟩ => show 0 + 1 * (i 0).val = (i 0).val; omega
  | ⟨1, _⟩ => show (128 * c.val + 32 * w.val) + 1 * (i 1).val = 128 * c.val + 32 * w.val + (i 1).val; omega
  | ⟨2, _⟩ => show 0 + 1 * (i 2).val = (i 2).val; omega

omit [FloatOps F] in
theorem read_rrow (c : Dev nD) (w : Fin 4) {off : Fin 2 → ℕ} (h : off = ![128 * c.val + 32 * w.val, 0]) (hin) :
    rM.view.readAt (Elt F) (Rect.unit (s := S1024x1024) off S32x1024.size hin).toLoadRect (rin m c) = rrow m c w := by
  subst h
  funext i
  refine congrArg (rin m c) (funext fun a => Fin.ext ?_)
  match a with
  | ⟨0, _⟩ => show (128 * c.val + 32 * w.val) + 1 * (i 0).val = 128 * c.val + 32 * w.val + (i 0).val; omega
  | ⟨1, _⟩ => show 0 + 1 * (i 1).val = (i 1).val; omega

theorem read_vrow (c : Dev nD) (w : Fin 4) (k : Fin 7) {off : Fin 3 → ℕ} (h : off = ![8 * w.val + (nb c k).val, 0, 0]) (hin) :
    (vM.access (Rect.unit (s := S32x32x1024) off S1x32x1024.size hin)).read (Elt F) (recvF m c) = vrow m c w k := by
  subst h
  funext i
  have h0 : (i 0).val = 0 := by have : (i 0).val < 1 := (i 0).isLt; omega
  show recvF m c ((Rect.unit (s := S32x32x1024) ![8 * w.val + (nb c k).val, 0, 0] S1x32x1024.size hin).emb i) = _
  have hm : (Rect.unit (s := S32x32x1024) ![8 * w.val + (nb c k).val, 0, 0] S1x32x1024.size hin).emb i ∈ slotSet w (nb c k) := by
    rw [mem_slotSet]; show (8 * w.val + (nb c k).val) + 1 * (i 0).val = _; omega
  obtain ⟨h1, h2⟩ := slotOwner_of_mem hm
  unfold recvF
  rw [h1, h2]
  refine congrArg (xbF m (nb c k)) (congrArg₂ ix2 (Fin.ext ?_) (Fin.ext ?_))
  · show 128 * c.val + 32 * w.val + (0 + 1 * (i 1).val) = 128 * c.val + 32 * w.val + (i 1).val; omega
  · show 0 + 1 * (i 2).val = (i 2).val; omega

/-! ## The elements under each slice -/

theorem mem_rows {s : Dev nD} {w : Fin 4} {off : Fin 2 → ℕ} (h : off = ![128 * s.val + 32 * w.val, 0]) (hin) (i : S1024x1024.Idx) :
    i ∈ (Rect.unit (s := S1024x1024) off S32x1024.size hin).set ↔ i ∈ rowSet s w := by
  subst h
  rw [Rect.mem_set_unit, mem_rowSet]
  constructor
  · intro h; exact h 0
  · intro h a
    match a with
    | ⟨0, _⟩ => exact h
    | ⟨1, _⟩ => exact ⟨Nat.zero_le _, by show (i 1).val < 0 + 1024; have : (i 1).val < 1024 := (i 1).isLt; omega⟩

theorem mem_slots {s : Dev nD} {w : Fin 4} {off : Fin 3 → ℕ} (h : off = ![8 * w.val + s.val, 0, 0]) (hin) (i : S32x32x1024.Idx) :
    i ∈ (Rect.unit (s := S32x32x1024) off S1x32x1024.size hin).set ↔ i ∈ slotSet w s := by
  subst h
  rw [Rect.mem_set_unit, mem_slotSet]
  constructor
  · intro h; have h0 : 8 * w.val + s.val ≤ (i 0).val ∧ (i 0).val < 8 * w.val + s.val + 1 := h 0; omega
  · intro h a
    match a with
    | ⟨0, _⟩ => show 8 * w.val + s.val ≤ (i 0).val ∧ (i 0).val < 8 * w.val + s.val + 1; omega
    | ⟨1, _⟩ => exact ⟨Nat.zero_le _, by show (i 1).val < 0 + 32; have : (i 1).val < 32 := (i 1).isLt; omega⟩
    | ⟨2, _⟩ => exact ⟨Nat.zero_le _, by show (i 2).val < 0 + 1024; have : (i 2).val < 1024 := (i 2).isLt; omega⟩

theorem set_xb {s : Dev nD} {w : Fin 4} {off : Fin 2 → ℕ} (h : off = ![128 * s.val + 32 * w.val, 0]) (hin) (hs) :
    (xbM.slice (Rect.unit (s := S1024x1024) off S32x1024.size hin) hs).view.set = rowSet s w := by
  exact (View.set_slice_whole cc0_scratch0 _).trans (Finset.ext fun i => mem_rows h hin i)
theorem set_o {s : Dev nD} {w : Fin 4} {off : Fin 2 → ℕ} (h : off = ![128 * s.val + 32 * w.val, 0]) (hin) (hs) :
    (oM.slice (Rect.unit (s := S1024x1024) off S32x1024.size hin) hs).view.set = rowSet s w := by
  exact (View.set_slice_whole cc0_stg3_0 _).trans (Finset.ext fun i => mem_rows h hin i)
theorem set_v {s : Dev nD} {w : Fin 4} {off : Fin 3 → ℕ} (h : off = ![8 * w.val + s.val, 0, 0]) (hin) (hs) (sq) :
    ((vM.slice (Rect.unit (s := S32x32x1024) off S1x32x1024.size hin) hs).squeeze S32x1024 sq).view.set = slotSet w s := by
  refine (View.set_reshape _ _).trans ?_
  exact (View.set_slice_whole cc0_scratch1 _).trans (Finset.ext fun i => mem_slots h hin i)
theorem set_vload {s : Dev nD} {w : Fin 4} {off : Fin 3 → ℕ} (h : off = ![8 * w.val + s.val, 0, 0]) (hin) :
    (vM.access (Rect.unit (s := S32x32x1024) off S1x32x1024.size hin)).set = slotSet w s := by
  exact (View.set_slice_whole cc0_scratch1 _).trans (Finset.ext fun i => mem_slots h hin i)
theorem set_oacc {s : Dev nD} {w : Fin 4} {off : Fin 2 → ℕ} (h : off = ![128 * s.val + 32 * w.val, 0]) (hin) :
    (oM.access (Rect.unit (s := S1024x1024) off S32x1024.size hin)).set = rowSet s w := by
  exact (View.set_slice_whole cc0_stg3_0 _).trans (Finset.ext fun i => mem_rows h hin i)

/-! ## What lands -/

/-- A block sent in the first exchange lands as its receiver's contents say. -/
theorem landed_v (c : Dev nD) (w : Fin 4) (k : Fin 7) {off : Fin 3 → ℕ} {off' : Fin 2 → ℕ}
    (h : off = ![8 * w.val + c.val, 0, 0]) (h' : off' = ![128 * (nb c k).val + 32 * w.val, 0]) (hin) (hs) (sq) (hin') (hs')
    (fd : (cc0_scratch1 : Ref sig .tc).ty.Contents (Elt F)) :
    ∀ i ∈ slotSet w c, ((vM.slice (Rect.unit (s := S32x32x1024) off S1x32x1024.size hin) hs).squeeze S32x1024 sq).view.write (Elt F) fd
      ((xbM.slice (Rect.unit (s := S1024x1024) off' S32x1024.size hin') hs').view.read (Elt F) (xbF m c)) Finset.univ i = recvF m (nb c k) i := by
  intro i hi
  obtain ⟨h1, h2⟩ := slotOwner_of_mem hi
  have hi' : i ∈ ((vM.slice (Rect.unit (s := S32x32x1024) off S1x32x1024.size hin) hs).squeeze S32x1024 sq).view.set := by
    rw [set_v h hin hs sq]; exact hi
  obtain ⟨x, hx⟩ := View.exists_emb_of_mem_set _ hi'
  have hq : Shape.reshapeEquiv sq.numel_eq x = ix3 (⟨0, Nat.one_pos⟩ : Fin 1) (x 0) (x 1) := by
    conv_lhs => rw [eq_ix2 x]
    exact reshapeEquiv_ix2_1ab sq.numel_eq (x 0) (x 1)
  have he : i = (Rect.unit (s := S32x32x1024) off S1x32x1024.size hin).emb (ix3 (⟨0, Nat.one_pos⟩ : Fin 1) (x 0) (x 1)) :=
    hx.symm.trans (congrArg (Rect.unit (s := S32x32x1024) off S1x32x1024.size hin).emb hq)
  refine (congrArg _ hx.symm).trans ((View.write_emb_of_mem _ _ (Finset.mem_univ x)).trans ?_)
  subst h h'
  show xbF m c ((Rect.unit (s := S1024x1024) ![128 * (nb c k).val + 32 * w.val, 0] S32x1024.size hin').emb x) = xbF m (slotOwner i) (ix2 (row (nb c k) (slotBlock i) (i 1)) (i 2))
  rw [h1, h2]
  have e1 : (i 1).val = (x 0).val := by rw [he]; show 0 + 1 * (x 0).val = _; omega
  have e2 : (i 2).val = (x 1).val := by rw [he]; show 0 + 1 * (x 1).val = _; omega
  refine congrArg (xbF m c) (funext fun a => Fin.ext ?_)
  match a with
  | ⟨0, _⟩ =>
    show (128 * (nb c k).val + 32 * w.val) + 1 * (x 0).val = 128 * (nb c k).val + 32 * w.val + (i 1).val
    omega
  | ⟨1, _⟩ => show 0 + 1 * (x 1).val = (i 2).val; omega

/-- A block of the result sent in the second exchange lands as the result. -/
theorem landed_o (s : Dev nD) (w : Fin 4) {off : Fin 2 → ℕ} (h : off = ![128 * s.val + 32 * w.val, 0]) (hin) (hs)
    (fd f : (cc0_stg3_0 : Ref sig .tc).ty.Contents (Elt F)) :
    ∀ i ∈ rowSet s w, (oM.slice (Rect.unit (s := S1024x1024) off S32x1024.size hin) hs).view.write (Elt F) fd
      ((oM.slice (Rect.unit (s := S1024x1024) off S32x1024.size hin) hs).view.read (Elt F) f) Finset.univ i = f i := by
  intro i hi
  have hi' : i ∈ (oM.slice (Rect.unit (s := S1024x1024) off S32x1024.size hin) hs).view.set := by rw [set_o h hin hs]; exact hi
  obtain ⟨x, hx⟩ := View.exists_emb_of_mem_set _ hi'
  exact (congrArg _ hx.symm).trans ((View.write_emb_of_mem _ _ (Finset.mem_univ x)).trans (congrArg f hx))

/-- The block a device computes is stored as the result. -/
theorem stored_o (c : Dev nD) (w : Fin 4) {off : Fin 2 → ℕ} (h : off = ![128 * c.val + 32 * w.val, 0]) (hin)
    (f : (cc0_stg3_0 : Ref sig .tc).ty.Contents (Elt F)) :
    ∀ i ∈ rowSet c w, (oM.access (Rect.unit (s := S1024x1024) off S32x1024.size hin)).write (Elt F) f (yBlk m c w) Finset.univ i = outF m i := by
  intro i hi
  obtain ⟨h1, h2⟩ := rowOwner_of_mem hi
  have hi' : i ∈ (oM.access (Rect.unit (s := S1024x1024) off S32x1024.size hin)).set := by rw [set_oacc h hin]; exact hi
  obtain ⟨x, hx⟩ := View.exists_emb_of_mem_set _ hi'
  refine (congrArg _ hx.symm).trans ((View.write_emb_of_mem _ _ (Finset.mem_univ x)).trans ?_)
  subst h
  have he : i = (Rect.unit (s := S1024x1024) ![128 * c.val + 32 * w.val, 0] S32x1024.size hin).emb x := hx.symm
  have e0 : (i 0).val = 128 * c.val + 32 * w.val + (x 0).val := by
    rw [he]; show (128 * c.val + 32 * w.val) + 1 * (x 0).val = _; omega
  have e1 : (i 1).val = (x 1).val := by rw [he]; show 0 + 1 * (x 1).val = _; omega
  have x0 : (x 0).val < 32 := (x 0).isLt
  show yBlk m c w x = yBlk m (rowOwner i) (rowBlock i) _
  rw [h1, h2]
  refine congrArg (yBlk m c w) (funext fun a => Fin.ext ?_)
  match a with
  | ⟨0, _⟩ => show (x 0).val = (i 0).val % 32; omega
  | ⟨1, _⟩ => exact e1.symm

/-- The whole store of the addend. -/
theorem write_xb (c : Dev nD) (h) (f : (cc0_scratch0 : Ref sig .tc).ty.Contents (Elt F)) :
    (xbM.access (Rect.unit (s := S1024x1024) ![0, 0] S1024x1024.size h) : View sig .tc _ _ _).write (Elt F) f (k0_pay1 (xin m c)) Finset.univ = xbF m c :=
  Memref.write_access_unit_zero_univ (Elt F) cc0_scratch0 (funext fun a => by fin_cases a <;> rfl) _ f _

end Cert.AllReduce

end
-- ==== Proof.Sched.lean ====
/-
# `Sched`: what each semaphore promises

The protocol under the rounds library. Every semaphore has one round; a duty of it is named by the device that
pays it. A device's barrier has one duty from each of its seven peers, and a peer's signal hands over the peer's
places for this device's rows: its four arrival places and its four blocks of the result buffer. A departure
semaphore returns what was lent to the transfer, an arrival semaphore hands over the block that landed.
-/
module

public import proofs.«01_k».proof.Proof.Blocks

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the exchanges' -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Cells -/

abbrev barCell (c : Dev nD) : GSem nD τ sig := ((c : Thread nD τ), .reg barS)
abbrev dCell (c : Dev nD) (q : DmaSem sig) : GSem nD τ sig := ((c : Thread nD τ), .dma q)

/-! ## What is handed over -/

/-- A block of the addend as device `c` sends it, to be read by the transfer to `s`. -/
def xbPts (c s : Dev nD) (w : Fin 4) : sProp 𝕄 := xbM.view.loc (c : Thread nD τ) ↦[rowSet s w]{fullShare} xbF m c
/-- An arrival place on device `c`. -/
def slotPts (c : Dev nD) (w : Fin 4) (s : Dev nD) (f : (cc0_scratch1 : Ref sig .tc).ty.Contents (Elt F)) : sProp 𝕄 :=
  vM.view.loc (c : Thread nD τ) ↦[slotSet w s]{fullShare} f
/-- A block of device `c`'s result buffer. -/
def outPts (c s : Dev nD) (w : Fin 4) (q : PosShare TreeShare) (f : (cc0_stg3_0 : Ref sig .tc).ty.Contents (Elt F)) : sProp 𝕄 :=
  oM.view.loc (c : Thread nD τ) ↦[rowSet s w]{q} f

/-- The share of its own block a device lends to its `k`-th transfer of it, and the one it keeps. -/
def lent (k : Fin 7) : PosShare TreeShare := ShareLeaves.leaf 3 fullShare (k.castSucc : Fin 8)
def kept : PosShare TreeShare := ShareLeaves.leaf 3 fullShare (Fin.last 7 : Fin 8)

instance xbPts_storable (c s : Dev nD) (w : Fin 4) : BI.Storable (upEmb : UEmb _ 𝕄) (xbPts m c s w) := by unfold xbPts; infer_instance
omit [FloatOps F] in
instance slotPts_storable (c : Dev nD) (w : Fin 4) (s : Dev nD) (f) : BI.Storable (upEmb : UEmb _ 𝕄) (slotPts (F := F) c w s f) := by
  unfold slotPts; infer_instance
omit [FloatOps F] in
instance outPts_storable (c s : Dev nD) (w : Fin 4) (q) (f) : BI.Storable (upEmb : UEmb _ 𝕄) (outPts (F := F) c s w q f) := by
  unfold outPts; infer_instance

/-- Device `a`'s places for device `b`'s rows of block `w`. -/
def placeOf (a b : Dev nD) (w : Fin 4) : sProp 𝕄 :=
  iprop((∃ f, slotPts (F := F) a w b f) ∗ ∃ f, outPts (F := F) a b w fullShare f)
/-- What device `a`'s signal hands device `b`. -/
def barPay (b a : Dev nD) : sProp 𝕄 := bigSep Finset.univ fun w : Fin 4 => placeOf (F := F) a b w

/-- What the completion of DMA semaphore `n` of device `c` hands it. -/
def dmaPay (c : Dev nD) (n : ℕ) : sProp 𝕄 :=
  if n < 4 then iprop(emp)
  else if n < 32 then xbPts m c (nb c (kOf (n - 4))) (wOf (n - 4))
  else if n < 64 then slotPts c ⟨(n - 32) / 8 % 4, Nat.mod_lt _ (by decide)⟩ ⟨(n - 32) % 8, Nat.mod_lt _ (by decide)⟩ (recvF m c)
  else if n < 92 then outPts c c (wOf (n - 64)) (lent (kOf (n - 64))) (outF m)
  else outPts c ⟨(n - 92) % 8, Nat.mod_lt _ (by decide)⟩ ⟨(n - 92) / 8 % 4, Nat.mod_lt _ (by decide)⟩ fullShare (outF m)

/-- Who pays DMA semaphore `n` of device `c`: a departure the device itself, an arrival the peer it is for. -/
def dmaDuty (c : Dev nD) (n : ℕ) : Finset (Dev nD) :=
  if n < 4 then ∅
  else if n < 32 then {c}
  else if n < 64 then ({⟨(n - 32) % 8, Nat.mod_lt _ (by decide)⟩} : Finset (Dev nD)).erase c
  else if n < 92 then {c}
  else ({⟨(n - 92) % 8, Nat.mod_lt _ (by decide)⟩} : Finset (Dev nD)).erase c

def Rd : Rounds.Schedule (GSem nD τ sig) (Dev nD) 𝕄 where
  duties g r := if r = 0 ∧ g.1.2 = .tc then (match g.2 with
    | .reg s => if s = barS then Finset.univ.erase g.1.1 else ∅
    | .dma q => dmaDuty g.1.1 q.val) else ∅
  unitless _ := False
  amount g _ _ := match g.2 with | .reg _ => 1 | .dma _ => N
  payload g _ d := match g.2 with | .reg _ => barPay g.1.1 d | .dma q => dmaPay m g.1.1 q.val
  amount_pos g _ _ _ := by
    match g.2 with
    | .reg _ => exact Nat.one_pos
    | .dma _ => exact N_pos

instance Rd_storable (g : GSem nD τ sig) (r : ℕ) (d : Dev nD) : BI.Storable (upEmb : UEmb _ 𝕄) ((Rd m).payload g r d) := by
  obtain ⟨t, sm⟩ := g
  cases sm with
  | reg s =>
    show BI.Storable upEmb (barPay (F := F) t.1 d)
    unfold barPay placeOf; infer_instance
  | dma q =>
    show BI.Storable upEmb (dmaPay m t.1 q.val)
    unfold dmaPay
    (repeat' split) <;> infer_instance

section
variable (c : Dev nD)

theorem duties_later (g : GSem nD τ sig) : ∀ r, 1 ≤ r → (Rd m).duties g r = ∅ :=
  fun r hr => by dsimp only [Rd]; rw [if_neg fun h => by omega]
/-- The semaphores nobody uses have no duty at all. -/
theorem duties_none {q : DmaSem sig} (h : dmaDuty c q.val = ∅) : ∀ r, 0 ≤ r → (Rd m).duties (dCell c q) r = ∅ := by
  intro r _
  dsimp only [Rd]
  split
  · exact h
  · rfl

theorem duties_bar : (Rd m).duties (barCell c) 0 = Finset.univ.erase c := by
  dsimp only [Rd]; rw [if_pos ⟨rfl, rfl⟩]; exact if_pos rfl
theorem duties_dma (q : DmaSem sig) : (Rd m).duties (dCell c q) 0 = dmaDuty c q.val := by
  dsimp only [Rd]; rw [if_pos ⟨rfl, rfl⟩]
theorem amount_bar (d : Dev nD) : (Rd m).amount (barCell c) 0 d = 1 := rfl
theorem amount_dma (q : DmaSem sig) (d : Dev nD) : (Rd m).amount (dCell c q) 0 d = N := rfl

theorem split_step (w : Fin 4) (k : Fin 7) : wOf (7 * w.val + k.val) = w ∧ kOf (7 * w.val + k.val) = k := by revert w k; decide
theorem split_slot (w : Fin 4) (s : Dev nD) : (⟨(8 * w.val + s.val) / 8 % 4, Nat.mod_lt _ (by decide)⟩ : Fin 4) = w
    ∧ (⟨(8 * w.val + s.val) % 8, Nat.mod_lt _ (by decide)⟩ : Dev nD) = s := by revert w s; decide

variable (w : Fin 4) (k : Fin 7) (s : Dev nD)

theorem duty_s : dmaDuty c (sS w k).val = {c} := by
  unfold dmaDuty sS; rw [if_neg (by simp only; omega), if_pos (by simp only; omega)]
theorem duty_b : dmaDuty c (bS w k).val = {c} := by
  unfold dmaDuty bS; rw [if_neg (by simp only; omega), if_neg (by simp only; omega), if_neg (by simp only; omega), if_pos (by simp only; omega)]
theorem duty_r : dmaDuty c (rS w s).val = ({s} : Finset (Dev nD)).erase c := by
  have := dev_lt s
  unfold dmaDuty rS; rw [if_neg (by simp only; omega), if_neg (by simp only; omega), if_pos (by simp only; omega)]
  simp only [Nat.add_sub_cancel_left]; rw [(split_slot w s).2]
theorem duty_v : dmaDuty c (vS w s).val = ({s} : Finset (Dev nD)).erase c := by
  have := dev_lt s
  unfold dmaDuty vS
  rw [if_neg (by simp only; omega), if_neg (by simp only; omega), if_neg (by simp only; omega), if_neg (by simp only; omega)]
  simp only [Nat.add_sub_cancel_left]; rw [(split_slot w s).2]

theorem duties_s : (Rd m).duties (dCell c (sS w k)) 0 = {c} := (duties_dma m c _).trans (duty_s c w k)
theorem duties_b : (Rd m).duties (dCell c (bS w k)) 0 = {c} := (duties_dma m c _).trans (duty_b c w k)
theorem duties_r (h : s ≠ c) : (Rd m).duties (dCell c (rS w s)) 0 = {s} :=
  (duties_dma m c _).trans ((duty_r c w s).trans (Finset.erase_eq_of_notMem (fun h' => h (Finset.mem_singleton.mp h').symm)))
theorem duties_v (h : s ≠ c) : (Rd m).duties (dCell c (vS w s)) 0 = {s} :=
  (duties_dma m c _).trans ((duty_v c w s).trans (Finset.erase_eq_of_notMem (fun h' => h (Finset.mem_singleton.mp h').symm)))
theorem unused_r : dmaDuty c (rS w c).val = ∅ := by rw [duty_r]; exact Finset.erase_singleton c
theorem unused_v : dmaDuty c (vS w c).val = ∅ := by rw [duty_v]; exact Finset.erase_singleton c

theorem payload_bar (d : Dev nD) : (Rd m).payload (barCell c) 0 d = barPay (F := F) c d := rfl
theorem payload_s (d : Dev nD) : (Rd m).payload (dCell c (sS w k)) 0 d = xbPts m c (nb c k) w := by
  show dmaPay m c (4 + (7 * w.val + k.val)) = _
  unfold dmaPay
  rw [if_neg (by omega), if_pos (by omega), Nat.add_sub_cancel_left, (split_step w k).1, (split_step w k).2]
theorem payload_b (d : Dev nD) : (Rd m).payload (dCell c (bS w k)) 0 d = outPts c c w (lent k) (outF m) := by
  show dmaPay m c (64 + (7 * w.val + k.val)) = _
  unfold dmaPay
  rw [if_neg (by omega), if_neg (by omega), if_neg (by omega), if_pos (by omega), Nat.add_sub_cancel_left, (split_step w k).1, (split_step w k).2]
theorem payload_r (d : Dev nD) : (Rd m).payload (dCell c (rS w s)) 0 d = slotPts c w s (recvF m c) := by
  have := dev_lt s
  show dmaPay m c (32 + (8 * w.val + s.val)) = _
  unfold dmaPay
  rw [if_neg (by omega), if_neg (by omega), if_pos (by omega)]
  simp only [Nat.add_sub_cancel_left]
  rw [(split_slot w s).1, (split_slot w s).2]
theorem payload_v (d : Dev nD) : (Rd m).payload (dCell c (vS w s)) 0 d = outPts c s w fullShare (outF m) := by
  have := dev_lt s
  show dmaPay m c (92 + (8 * w.val + s.val)) = _
  unfold dmaPay
  rw [if_neg (by omega), if_neg (by omega), if_neg (by omega), if_neg (by omega)]
  simp only [Nat.add_sub_cancel_left]
  rw [(split_slot w s).1, (split_slot w s).2]

theorem expect_bar : (Rd m).expect (barCell c) 0 = 7 := by
  unfold Schedule.expect Schedule.amountOf
  rw [duties_bar, Finset.sum_congr rfl fun d _ => amount_bar m c d, Finset.sum_const, Finset.card_erase_of_mem (Finset.mem_univ c)]
  rfl
/-- A DMA semaphore with one duty expects one block's credit; -/
theorem expect_dma {q : DmaSem sig} {d : Dev nD} (h : (Rd m).duties (dCell c q) 0 = {d}) : (Rd m).expect (dCell c q) 0 = N := by
  unfold Schedule.expect Schedule.amountOf; rw [h, Finset.sum_singleton]; rfl
/-- and hands over that duty's payload. -/
theorem rest_dma {q : DmaSem sig} {d : Dev nD} (h : (Rd m).duties (dCell c q) 0 = {d}) :
    bigSep ((Rd m).duties (dCell c q) 0 \ ∅) (fun d => (Rd m).payload (dCell c q) 0 d) = (Rd m).payload (dCell c q) 0 d := by
  rw [Finset.sdiff_empty, h, bigSep_singleton]

end

/-! ## What is owed, and in which order it may be waited for -/

/-- The signals device `c` still owes before its `i`-th, the arrivals of the first exchange before step `i`, and of the second. -/
def obar (c : Dev nD) (i : ℕ) : CellTallies nD τ sig Unit := ∑ j ∈ Finset.Ico i 7, tallyAt (barCell (nb c (kOf j))) () 1
def orcv (c : Dev nD) (i : ℕ) : CellTallies nD τ sig Unit := ∑ j ∈ Finset.Ico i 28, tallyAt (dCell (nb c (kOf j)) (rS (wOf j) c)) () N
def obrc (c : Dev nD) (i : ℕ) : CellTallies nD τ sig Unit := ∑ j ∈ Finset.Ico i 28, tallyAt (dCell (nb c (kOf j)) (vS (wOf j) c)) () N
def O₀ (c : Dev nD) : CellTallies nD τ sig Unit := orcv c 0 + obrc c 0 + obar c 0

theorem ico_pop {i n : ℕ} (h : i < n) : Finset.Ico i n = insert i (Finset.Ico (i + 1) n) := by
  ext x; simp only [Finset.mem_Ico, Finset.mem_insert]; omega
theorem obar_pop (c : Dev nD) {i : ℕ} (h : i < 7) : obar c i = obar c (i + 1) + tallyAt (barCell (nb c (kOf i))) () 1 := by
  unfold obar; rw [ico_pop h, Finset.sum_insert (by simp), add_comm]
theorem orcv_pop (c : Dev nD) {i : ℕ} (h : i < 28) : orcv c i = orcv c (i + 1) + tallyAt (dCell (nb c (kOf i)) (rS (wOf i) c)) () N := by
  unfold orcv; rw [ico_pop h, Finset.sum_insert (by simp), add_comm]
theorem obrc_pop (c : Dev nD) {i : ℕ} (h : i < 28) : obrc c i = obrc c (i + 1) + tallyAt (dCell (nb c (kOf i)) (vS (wOf i) c)) () N := by
  unfold obrc; rw [ico_pop h, Finset.sum_insert (by simp), add_comm]
theorem obar_end (c : Dev nD) : obar c 7 = 0 := by unfold obar; rw [Finset.Ico_self, Finset.sum_empty]
theorem orcv_end (c : Dev nD) : orcv c 28 = 0 := by unfold orcv; rw [Finset.Ico_self, Finset.sum_empty]
theorem obrc_end (c : Dev nD) : obrc c 28 = 0 := by unfold obrc; rw [Finset.Ico_self, Finset.sum_empty]

def L (g : GSem nD τ sig) : Finset Unit := if g.1.2 = .tc then {()} else ∅
/-- Departures and the pipeline's own transfers below barriers, barriers below the first exchange's arrivals, those below
    the second's. -/
def lv (g : GSem nD τ sig) (_ : Unit) : ℕ := match g.2 with
  | .reg _ => 1
  | .dma q => if q.val < 32 then 0 else if q.val < 64 then 2 else if q.val < 92 then 0 else 3

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_r (c : Dev nD) (w : Fin 4) (s : Dev nD) : lv (dCell c (rS w s)) () = 2 := by
  have := dev_lt s
  show (if 32 + (8 * w.val + s.val) < 32 then 0 else if 32 + (8 * w.val + s.val) < 64 then 2 else _) = 2
  rw [if_neg (by omega), if_pos (by omega)]
theorem lv_v (c : Dev nD) (w : Fin 4) (s : Dev nD) : lv (dCell c (vS w s)) () = 3 := by
  show (if 92 + (8 * w.val + s.val) < 32 then 0 else if 92 + (8 * w.val + s.val) < 64 then 2 else if 92 + (8 * w.val + s.val) < 92 then 0 else 3) = 3
  rw [if_neg (by omega), if_neg (by omega), if_neg (by omega)]

/-- A sum of single debts is positive only at one of them. -/
theorem sum_pos_at {I : Finset ℕ} {cell : ℕ → GSem nD τ sig} {n : ℕ} {g : GSem nD τ sig} {u : Unit}
    (h : 0 < (∑ j ∈ I, (tallyAt (cell j) () n : CellTallies nD τ sig Unit)) g u) : ∃ j ∈ I, g = cell j := by
  by_contra hn
  have hz : (∑ j ∈ I, (tallyAt (cell j) () n : CellTallies nD τ sig Unit)) g u = 0 := by
    rw [Finset.sum_apply, Finsupp.finset_sum_apply]
    exact Finset.sum_eq_zero fun j hj => by
      rw [tallyAt_apply, if_neg fun h' => hn ⟨j, hj, h'.1⟩]
  omega

/-- A debt lies above level `n`. -/
def Above (n : ℕ) (O : CellTallies nD τ sig Unit) : Prop := ∀ g u, 0 < O g u → g.1.2 = .tc ∧ n < lv g u

theorem above_add {n : ℕ} {O O' : CellTallies nD τ sig Unit} (h : Above n O) (h' : Above n O') : Above n (O + O') := by
  intro g u hg
  rw [Pi.add_apply, Finsupp.add_apply] at hg
  rcases Nat.eq_zero_or_pos (O g u) with h0 | h0
  · exact h' g u (by omega)
  · exact h g u h0
theorem above_zero (n : ℕ) : Above n 0 := fun g u h => absurd h (Nat.lt_irrefl 0)
theorem above_bar (c : Dev nD) (i : ℕ) : Above 0 (obar c i) := fun g u h => by
  obtain ⟨j, -, rfl⟩ := sum_pos_at h; exact ⟨rfl, by cases u; rw [lv_bar]; decide⟩
theorem above_rcv (c : Dev nD) (i : ℕ) : Above 1 (orcv c i) := fun g u h => by
  obtain ⟨j, -, rfl⟩ := sum_pos_at h; exact ⟨rfl, by cases u; rw [lv_r]; decide⟩
theorem above_brc (c : Dev nD) (i : ℕ) : Above 2 (obrc c i) := fun g u h => by
  obtain ⟨j, -, rfl⟩ := sum_pos_at h; exact ⟨rfl, by cases u; rw [lv_v]; decide⟩
theorem Above.mono {n n' : ℕ} {O : CellTallies nD τ sig Unit} (h : Above n O) (hn : n' ≤ n) : Above n' O :=
  fun g u hg => ⟨(h g u hg).1, lt_of_le_of_lt hn (h g u hg).2⟩

/-- A core may wait on a semaphore whose level lies below all it owes. -/
theorem mayWait (c : Dev nD) (sm : SemLoc sig) (n : ℕ) (hn : lv ((c : Thread nD τ), sm) () = n) {O : CellTallies nD τ sig Unit} (h : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by show u ∈ L g; unfold L; rw [if_pos (h g u hg).1]; exact Finset.mem_singleton_self _)
    (fun p hp => by rw [Finset.mem_singleton.mp hp, hn])
    (fun g u hg => (h g u hg).2)

end Cert.AllReduce

end
-- ==== Proof.Steps.lean ====
/-
# `Steps`: one rule per kind of effect

What a device holds between two effects is `Mid`: how far it is in each of the two exchanges is written as numbers
of steps done, and what it holds for the steps done, under way and to come as families over those numbers. Each rule
here moves one of the numbers on by one.
-/
module

public import proofs.«01_k».proof.Proof.Sched
public import Idealize.SL.BI.BigOpNat

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## What every device may use at any time -/

/-- The semaphores of the exchanges: the kernel's own, and the barrier. -/
def osem (i : Fin 120) : SemLoc sig := .dma ⟨4 + i.val, by show _ < 124; omega⟩
def csem : Option (Fin 120) → SemLoc sig
  | none => .reg barS
  | some i => osem i
abbrev kcell (ck : Dev nD × Option (Fin 120)) : GSem nD τ sig := ((ck.1 : Thread nD τ), csem ck.2)

/-- A semaphore follows the schedule, and its round has opened. -/
def known (g : GSem nD τ sig) : sProp 𝕄 := iprop((∃ κ : ℕ, cellInv ER (Rd m) κ g) ∗ reached ER g 0)

instance known_persistent (g : GSem nD τ sig) : BI.Persistent (known m g) := by unfold known; infer_instance

def records : sProp 𝕄 :=
  iprop((bigSep Finset.univ fun ck : Dev nD × Option (Fin 120) => known m (kcell ck)) ∗ levAts L lv)

instance records_persistent : BI.Persistent (records m) := by unfold records; infer_instance

theorem known_at (ck : Dev nD × Option (Fin 120)) :
    (bigSep Finset.univ fun ck : Dev nD × Option (Fin 120) => known m (kcell ck)) ⊢ known m (kcell ck) :=
  bigSep_elim (Finset.mem_univ ck)
theorem known_bar (c : Dev nD) : records m ⊢ known m (barCell c) := by
  unfold records
  iintro ⟨H, -⟩
  iapply (known_at m (c, none)); iexact H
theorem known_dma (c : Dev nD) (q : DmaSem sig) (h : 4 ≤ q.val) : records m ⊢ known m (dCell c q) := by
  have hq : q.val < 124 := q.isLt
  have hi : q.val - 4 < 120 := by omega
  have e : kcell (c, some ⟨q.val - 4, hi⟩) = dCell c q := by
    refine congrArg (Prod.mk _) (congrArg SemLoc.dma (Fin.ext ?_))
    exact Nat.add_sub_of_le h
  rw [← e]
  unfold records
  iintro ⟨H, -⟩
  iapply (known_at m (c, some ⟨q.val - 4, hi⟩)); iexact H
theorem levels : records m ⊢ (levAts L lv : sProp 𝕄) := by
  unfold records; iintro ⟨-, H⟩; iexact H

theorem sS_ge (w : Fin 4) (k : Fin 7) : 4 ≤ (sS w k).val := Nat.le_add_right 4 _
theorem rS_ge (w : Fin 4) (s : Dev nD) : 4 ≤ (rS w s).val := Nat.le_trans (by decide) (Nat.le_add_right 32 _)
theorem bS_ge (w : Fin 4) (k : Fin 7) : 4 ≤ (bS w k).val := Nat.le_trans (by decide) (Nat.le_add_right 64 _)
theorem vS_ge (w : Fin 4) (s : Dev nD) : 4 ≤ (vS w s).val := Nat.le_trans (by decide) (Nat.le_add_right 92 _)

/-! ## Debts -/

/-- The device owes `O`, whatever it has waited on. -/
def debt (c : Dev nD) (O : CellTallies nD τ sig Unit) : sProp 𝕄 := iprop(∃ W, owes (c : Thread nD τ) O W)

/-! ## Families over the steps -/

section
variable (c : Dev nD)

def SendTodo (j : ℕ) : sProp 𝕄 :=
  iprop(xbPts m c (nb c (kOf j)) (wOf j) ∗ (∃ f, slotPts (F := F) (nb c (kOf j)) (wOf j) c f)
    ∗ dutyTok ER (dCell c (sS (wOf j) (kOf j))) 0 c ∗ dutyTok ER (dCell (nb c (kOf j)) (rS (wOf j) c)) 0 c
    ∗ atPos ER (dCell c (sS (wOf j) (kOf j))) 0 ∅ 0)
def SendGone (j : ℕ) : sProp 𝕄 :=
  iprop(cred (tallyAt (dCell c (sS (wOf j) (kOf j))) () N) ∗ atPos ER (dCell c (sS (wOf j) (kOf j))) 0 ∅ 0)
def SendBack (j : ℕ) : sProp 𝕄 :=
  iprop(xbPts m c (nb c (kOf j)) (wOf j) ∗ atPos ER (dCell c (sS (wOf j) (kOf j))) 1 ∅ 0)
def RecvTodo (j : ℕ) : sProp 𝕄 :=
  iprop(cred (tallyAt (dCell c (rS (wOf j) (nb c (kOf j)))) () N) ∗ atPos ER (dCell c (rS (wOf j) (nb c (kOf j)))) 0 ∅ 0)
def RecvDone (j : ℕ) : sProp 𝕄 :=
  iprop(slotPts c (wOf j) (nb c (kOf j)) (recvF m c) ∗ atPos ER (dCell c (rS (wOf j) (nb c (kOf j)))) 1 ∅ 0)
def BTodo (j : ℕ) : sProp 𝕄 :=
  iprop((∃ f, outPts (F := F) (nb c (kOf j)) c (wOf j) fullShare f)
    ∗ dutyTok ER (dCell c (bS (wOf j) (kOf j))) 0 c ∗ dutyTok ER (dCell (nb c (kOf j)) (vS (wOf j) c)) 0 c
    ∗ atPos ER (dCell c (bS (wOf j) (kOf j))) 0 ∅ 0)
def BGone (j : ℕ) : sProp 𝕄 :=
  iprop(cred (tallyAt (dCell c (bS (wOf j) (kOf j))) () N) ∗ atPos ER (dCell c (bS (wOf j) (kOf j))) 0 ∅ 0)
def BBack (j : ℕ) : sProp 𝕄 :=
  iprop(outPts c c (wOf j) (lent (kOf j)) (outF m) ∗ atPos ER (dCell c (bS (wOf j) (kOf j))) 1 ∅ 0)
def Leaf (j : ℕ) : sProp 𝕄 := outPts c c (wOf j) (lent (kOf j)) (outF m)
def BRecvTodo (j : ℕ) : sProp 𝕄 :=
  iprop(cred (tallyAt (dCell c (vS (wOf j) (nb c (kOf j)))) () N) ∗ atPos ER (dCell c (vS (wOf j) (nb c (kOf j)))) 0 ∅ 0)
def BRecvDone (j : ℕ) : sProp 𝕄 :=
  iprop(outPts c (nb c (kOf j)) (wOf j) fullShare (outF m) ∗ atPos ER (dCell c (vS (wOf j) (nb c (kOf j)))) 1 ∅ 0)
/-- The row block counted `n`. -/
def w4 (n : ℕ) : Fin 4 := ⟨n % 4, Nat.mod_lt _ (by decide)⟩
def OwnTodo (n : ℕ) : sProp 𝕄 := iprop(∃ f, outPts (F := F) c c (w4 n) fullShare f)
def OwnDone (n : ℕ) : sProp 𝕄 := outPts c c (w4 n) kept (outF m)

/-- Of a family of steps, those from `b` to `n` in one state and those from `a` to `b` in the next. -/
def queue (a b n : ℕ) (T D : ℕ → sProp 𝕄) : sProp 𝕄 := iprop(bigSep (Finset.Ico b n) T ∗ bigSep (Finset.Ico a b) D)

omit [FloatOps F] in
/-- Step `b` moves on. -/
theorem queue_step {a b n : ℕ} (h : b < n) (h' : a ≤ b) (T D : ℕ → sProp 𝕄) :
    queue a b n T D ⊢ iprop(T b ∗ (D b -∗ queue a (b + 1) n T D)) := by
  unfold queue
  rw [bigSep_Ico_succ_bot h, bigSep_Ico_succ_top h']
  iintro ⟨⟨HT, HR⟩, HD⟩
  isplitl [HT]; · iexact HT
  iintro H
  isplitl [HR]; · iexact HR
  isplitl [H] <;> iassumption

/-- The first exchange's departures: to come, under way, back. -/
def SendQ (i1 i5 : ℕ) : sProp 𝕄 :=
  iprop(bigSep (Finset.Ico i1 28) (SendTodo m c) ∗ bigSep (Finset.Ico i5 i1) (SendGone (F := F) c) ∗ bigSep (Finset.Ico 0 i5) (SendBack m c))
def RecvQ (i2 : ℕ) : sProp 𝕄 := queue 0 i2 28 (RecvTodo (F := F) c) (RecvDone m c)
/-- The second's. -/
def BQ (i3 i6 : ℕ) : sProp 𝕄 :=
  iprop(bigSep (Finset.Ico i3 28) (BTodo (F := F) c) ∗ bigSep (Finset.Ico i6 i3) (BGone (F := F) c) ∗ bigSep (Finset.Ico 0 i6) (BBack m c))
def BRecvQ (i4 : ℕ) : sProp 𝕄 := queue 0 i4 28 (BRecvTodo (F := F) c) (BRecvDone m c)
/-- The device's own row blocks of the result: `o` computed, and lent to the transfers from `i3` on. -/
def OwnQ (i3 o : ℕ) : sProp 𝕄 := iprop(queue 0 o 4 (OwnTodo (F := F) c) (OwnDone m c) ∗ bigSep (Finset.Ico i3 (7 * o)) (Leaf m c))

theorem sendQ_send {i : ℕ} (h : i < 28) : SendQ m c i 0 ⊢ iprop(SendTodo m c i ∗ (SendGone (F := F) c i -∗ SendQ m c (i + 1) 0)) := by
  unfold SendQ
  iintro ⟨HT, HG, HB⟩
  ihave H := (queue_step h (Nat.zero_le i) (SendTodo m c) (SendGone (F := F) c)) $$ [HT HG]
  · unfold queue; isplitl [HT] <;> iassumption
  icases H with ⟨H1, H2⟩
  isplitl [H1]; · iexact H1
  iintro H
  ihave H' := H2 $$ H
  unfold queue
  icases H' with ⟨Ha, Hb⟩
  isplitl [Ha]; · iexact Ha
  isplitl [Hb] <;> iassumption
theorem sendQ_wait {i : ℕ} (h : i < 28) : SendQ m c 28 i ⊢ iprop(SendGone (F := F) c i ∗ (SendBack m c i -∗ SendQ m c 28 (i + 1))) := by
  unfold SendQ
  iintro ⟨HT, HG⟩
  ihave H := (queue_step h (Nat.zero_le i) (SendGone (F := F) c) (SendBack m c)) $$ [HG]
  · unfold queue; iexact HG
  icases H with ⟨H1, H2⟩
  isplitl [H1]; · iexact H1
  iintro H
  ihave H' := H2 $$ H
  unfold queue
  isplitl [HT] <;> iassumption
theorem bq_send {i : ℕ} (h : i < 28) : BQ m c i 0 ⊢ iprop(BTodo (F := F) c i ∗ (BGone (F := F) c i -∗ BQ m c (i + 1) 0)) := by
  unfold BQ
  iintro ⟨HT, HG, HB⟩
  ihave H := (queue_step h (Nat.zero_le i) (BTodo (F := F) c) (BGone (F := F) c)) $$ [HT HG]
  · unfold queue; isplitl [HT] <;> iassumption
  icases H with ⟨H1, H2⟩
  isplitl [H1]; · iexact H1
  iintro H
  ihave H' := H2 $$ H
  unfold queue
  icases H' with ⟨Ha, Hb⟩
  isplitl [Ha]; · iexact Ha
  isplitl [Hb] <;> iassumption
theorem bq_wait {i : ℕ} (h : i < 28) : BQ m c 28 i ⊢ iprop(BGone (F := F) c i ∗ (BBack m c i -∗ BQ m c 28 (i + 1))) := by
  unfold BQ
  iintro ⟨HT, HG⟩
  ihave H := (queue_step h (Nat.zero_le i) (BGone (F := F) c) (BBack m c)) $$ [HG]
  · unfold queue; iexact HG
  icases H with ⟨H1, H2⟩
  isplitl [H1]; · iexact H1
  iintro H
  ihave H' := H2 $$ H
  unfold queue
  isplitl [HT] <;> iassumption
theorem ownQ_lend {i o : ℕ} (h : i < 7 * o) : OwnQ m c i o ⊢ iprop(Leaf m c i ∗ OwnQ m c (i + 1) o) := by
  unfold OwnQ
  rw [bigSep_Ico_succ_bot h]
  iintro ⟨HQ, HL, HR⟩
  isplitl [HL]; · iexact HL
  isplitl [HQ] <;> iassumption

omit [FloatOps F] in
theorem eight (Φ : Fin 8 → sProp 𝕄) : bigSep Finset.univ Φ = iprop(Φ (Fin.last 7) ∗ bigSep Finset.univ fun k : Fin 7 => Φ k.castSucc) := by
  rw [show (Finset.univ : Finset (Fin 8)) = insert (Fin.last 7) (Finset.univ.map (Fin.castSuccEmb : Fin 7 ↪ Fin 8)) by decide,
    bigSep_insert (by decide), bigSep_map]
  rfl
omit [FloatOps F] in
/-- A row block, held in full, is the seven shares to lend and the one to keep. -/
theorem leaves (w : Fin 4) (f) :
    outPts (F := F) c c w fullShare f
      = iprop(outPts (F := F) c c w kept f ∗ bigSep Finset.univ fun k : Fin 7 => outPts (F := F) c c w (lent k) f) := by
  have h := ShareLeaves.pointsTo_leaves (Ix := Unit) (Name := ℕ) (U := UU) (Lvl := ℕ) (ℓ := oM.view.loc (c : Thread nD τ)) (rowSet c w) f 3 fullShare
  exact h.trans (eight fun i => oM.view.loc (c : Thread nD τ) ↦[rowSet c w]{ShareLeaves.leaf 3 fullShare i} f)

omit [FloatOps F] in
/-- A family over seven steps in a row, from the first of a row block, is one over the seven peers. -/
theorem run7 (w : Fin 4) (Φ : Fin 4 → Fin 7 → sProp 𝕄) :
    (bigSep (Finset.Ico (7 * w.val) (7 * (w.val + 1))) fun j => Φ (wOf j) (kOf j)) = bigSep Finset.univ fun k : Fin 7 => Φ w k := by
  rw [show Finset.Ico (7 * w.val) (7 * (w.val + 1)) = Finset.univ.map
      (⟨fun k : Fin 7 => 7 * w.val + k.val, fun a b h => Fin.ext (by simp only at h; omega)⟩ : Fin 7 ↪ ℕ) by revert w; decide, bigSep_map]
  exact bigSep_congr fun k _ => by
    show Φ (wOf (7 * w.val + k.val)) (kOf (7 * w.val + k.val)) = _
    rw [(split_step w k).1, (split_step w k).2]

/-- Storing row block `o`: its elements are taken out at any contents and put back computed, to be lent. -/
theorem ownQ_store {o : ℕ} (h : o < 4) :
    OwnQ m c (7 * o) o ⊢ iprop(OwnTodo (F := F) c o ∗ (outPts c c (w4 o) fullShare (outF m) -∗ OwnQ m c (7 * o) (o + 1))) := by
  unfold OwnQ
  iintro ⟨HQ, -⟩
  ihave H := (queue_step h (Nat.zero_le o) (OwnTodo (F := F) c) (OwnDone m c)) $$ HQ
  icases H with ⟨H1, H2⟩
  isplitl [H1]; · iexact H1
  iintro H
  ihave Hl := (Entails.of_eq (leaves c (w4 o) (outF m))) $$ H
  icases Hl with ⟨Hk, Hl⟩
  isplitl [H2 Hk]
  · iapply H2; unfold OwnDone; iexact Hk
  · have e : (w4 o).val = o := Nat.mod_eq_of_lt h
    have := run7 (w4 o) fun w k => outPts c c w (lent k) (outF m)
    rw [e] at this
    iapply (Entails.of_eq this.symm); iexact Hl

end

/-! ## The state -/

/-- What device `c` holds between two effects after the handshake: `i1` departures of the first exchange started and
    `i5` of them over, `i2` arrivals taken; `i3`, `i6` and `i4` the same of the second; `o` row blocks computed. `R` is what
    no effect touches. -/
def Mid (c : Dev nD) (R : sProp 𝕄) (i1 i2 i3 o i4 i5 i6 : ℕ) : sProp 𝕄 :=
  iprop(records m ∗ debt c (orcv c i1 + obrc c i3) ∗ SendQ m c i1 i5 ∗ RecvQ m c i2 ∗ BQ m c i3 i6 ∗ OwnQ m c i3 o ∗ BRecvQ m c i4
    ∗ (xM.view.loc (c : Thread nD τ) ↦{fullShare} xin m c) ∗ (rM.view.loc (c : Thread nD τ) ↦{fullShare} rin m c)
    ∗ (gM.view.loc (c : Thread nD τ) ↦{fullShare} gin m c) ∗ R)

section
variable (c : Dev nD)

/-- A wait for one block's credit on a semaphore of one duty. -/
theorem wait_dma {α : Type} {Q : α → sProp 𝕄} {k : PUnit → Prog (TpuEff nD τ sig (Elt F) Λ₀ .tc) α}
    {q s : DmaSem sig} (d : Dev nD) (hs : s = q) (hq : 4 ≤ q.val) (hd : (Rd m).duties (dCell c q) 0 = {d})
    {sp sp' : Space} {sh sh' : Shape} {e e' : EltTy} {src : Memref sig .tc sp' sh' e'} {dst : Memref sig .tc sp sh e}
    {h₁ : src.view.WordExact} {h₂ : dst.view.WordExact} (hN : dst.view.dmaCredit = N)
    (n : ℕ) (hn : lv (dCell c q) () = n) {O : CellTallies nD τ sig Unit} (hO : Above n O) :
    iprop(records m ∗ cred (tallyAt (dCell c q) () N) ∗ debt (F := F) c O ∗ atPos ER (dCell c q) 0 ∅ 0)
      ⊢ iprop(((debt (F := F) c O ∗ atPos ER (dCell c q) 1 ∅ 0 ∗ (Rd m).payload (dCell c q) 0 d) -∗
            wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst h₁ h₂) k) Q) := by
  subst hs
  unfold debt
  iintro ⟨#HR, Hc, ⟨%W, HO⟩, Hat⟩ Hk
  ihave #Hkn := (known_dma m c s hq) $$ HR
  ihave #Hlev := (levels m) $$ HR
  unfold known
  icases Hkn with ⟨⟨%κ, #HI⟩, -⟩
  iapply (Rounds.wp_wait_rest_token 𝒱₀ ER (Rd m) (c : Thread nD τ) none (κ := κ)
      (wpE_waitDma2_eq 𝒱₀ (c : Thread nD τ) none Set.univ) (Set.mem_univ _) () (O := O) (W := W) (R := 0) (m := 0) (T := ∅)
      (by rw [hN, Nat.zero_add, expect_dma m c hd])) $$ [Hc HO Hat]
  · isplitr; · iexact HI
    isplitl [Hc]; · rw [hN]; iexact Hc
    isplitl [HO]; · iexact HO
    isplitr; · iapply (mayWait c (.dma s) n hn hO); iexact Hlev
    iexact Hat
  iintro ⟨HO, Hat, -, Hpay⟩
  ihave Hp := (Entails.of_eq (rest_dma m c hd)) $$ Hpay
  iapply Hk
  isplitl [HO]
  · iexists _; iexact HO
  isplitl [Hat] <;> iassumption

/-- A transfer of the first exchange: row block `w` of the addend to peer `k`. -/
theorem send_x {α : Type} {Q : α → sProp 𝕄} {kt : PUnit → Prog (TpuEff nD τ sig (Elt F) Λ₀ .tc) α}
    (w : Fin 4) (k : Fin 7) {n : Dev nD} (hn : n = nb c k) {off : Fin 3 → ℕ} {off' : Fin 2 → ℕ}
    (h : off = ![8 * w.val + c.val, 0, 0]) (h' : off' = ![128 * (nb c k).val + 32 * w.val, 0]) {hin hs sq hin' hs'}
    {s1 s2 : DmaSem sig} (hs1 : s1 = sS w k) (hs2 : s2 = rS w c)
    {hsc : ((vM.slice (Rect.unit (s := S32x32x1024) off S1x32x1024.size hin) hs).squeeze S32x1024 sq).view.ref.isScScratch = false}
    {hsrc : (xbM.slice (Rect.unit (s := S1024x1024) off' S32x1024.size hin') hs').view.WordExact}
    {hdst : ((vM.slice (Rect.unit (s := S32x32x1024) off S1x32x1024.size hin) hs).squeeze S32x1024 sq).view.WordExact}
    {hsem : DmaTarget.Typed .vmem (.dma s2) (.remote (Dev.tc n : Thread nD τ) ((vM.slice (Rect.unit (s := S32x32x1024) off S1x32x1024.size hin) hs).squeeze S32x1024 sq) (.dma s1) hsc)}
    {O₀ : CellTallies nD τ sig Unit} (O : CellTallies nD τ sig Unit) (hO : O₀ = O + tallyAt (dCell (nb c k) (rS w c)) () N) :
    iprop(records m ∗ debt (F := F) c O₀ ∗ xbPts m c (nb c k) w ∗ (∃ f, slotPts (F := F) (nb c k) w c f)
        ∗ dutyTok ER (dCell c (sS w k)) 0 c ∗ dutyTok ER (dCell (nb c k) (rS w c)) 0 c)
      ⊢ iprop(((debt (F := F) c O ∗ cred (tallyAt (dCell c (sS w k)) () N)) -∗
            wp frame (wpE (defs₀ (F := F)) 𝒱₀ (c : Thread nD τ) none) Set.univ (kt ⟨⟩) Q)
          -∗ wp frame (wpE (defs₀ (F := F)) 𝒱₀ (c : Thread nD τ) none) Set.univ
            (.op (.enqueueDma (xbM.slice (Rect.unit (s := S1024x1024) off' S32x1024.size hin') hs')
              (.remote (Dev.tc n : Thread nD τ) ((vM.slice (Rect.unit (s := S32x32x1024) off S1x32x1024.size hin) hs).squeeze S32x1024 sq) (.dma s1) hsc)
              (.dma s2) hsrc hdst hsem) kt) Q) := by
  subst hn hs1 hs2
  unfold debt
  iintro ⟨#HR, ⟨%W, HO⟩, Hx, ⟨%f, Hs⟩, Ht1, Ht2⟩ Hk
  ihave #Hk1 := (known_dma m c (sS w k) (sS_ge w k)) $$ HR
  ihave #Hk2 := (known_dma m (nb c k) (rS w c) (rS_ge w c)) $$ HR
  unfold known
  icases Hk1 with ⟨⟨%κ₁, #HI1⟩, #Hr1⟩
  icases Hk2 with ⟨⟨%κ₂, #HI2⟩, #Hr2⟩
  unfold xbPts slotPts
  rw [← set_xb h' hin' hs', ← set_v h hin hs sq]
  iapply (Rounds.wp_send_pointsTo 𝒱₀ ER (Rd m) (c : Thread nD τ) none (κ₁ := κ₁) (κ₂ := κ₂)
    (r₁ := 0) (r₂ := 0) (d₁ := c) (d₂ := c) (fd := f) (q := fullShare) (fs := xbF m c)
    (by rw [duties_s]; exact Finset.mem_singleton_self _) (by rw [duties_r m (nb c k) w c (nb_ne c k).symm]; exact Finset.mem_singleton_self _)
    () () N rfl (amount_dma m c _ c) (amount_dma m (nb c k) _ c) O hO (W := W)
    (by rw [payload_s]; unfold xbPts; rw [← set_xb h' hin' hs'])
    (by
      rw [payload_r]; unfold slotPts; rw [← set_v h hin hs sq]
      exact Entails.of_eq (pointsTo_congr (by rw [set_v h hin hs sq]; exact landed_v m c w k h h' hin hs sq hin' hs' f)))) $$ [HO Hx Hs Ht1 Ht2]
  · isplitr; · iexact HI1
    isplitr; · iexact HI2
    isplitl [Hx]; · iexact Hx
    isplitl [Hs]; · iexact Hs
    isplitl [HO]; · iexact HO
    isplitl [Ht1]; · iexact Ht1
    isplitr; · iexact Hr1
    isplitl [Ht2]; · iexact Ht2
    iexact Hr2
  iintro ⟨Hc, HO⟩
  iapply Hk
  isplitl [HO]; · iexists W; iexact HO
  iexact Hc

/-- A transfer of the second: the device's computed row block `w` to peer `k`. -/
theorem send_o {α : Type} {Q : α → sProp 𝕄} {kt : PUnit → Prog (TpuEff nD τ sig (Elt F) Λ₀ .tc) α}
    (w : Fin 4) (k : Fin 7) {n : Dev nD} (hn : n = nb c k) {off : Fin 2 → ℕ}
    (h : off = ![128 * c.val + 32 * w.val, 0]) {hin hs}
    {s1 s2 : DmaSem sig} (hs1 : s1 = bS w k) (hs2 : s2 = vS w c)
    {hsc : (oM.slice (Rect.unit (s := S1024x1024) off S32x1024.size hin) hs).view.ref.isScScratch = false}
    {hsrc hdst : (oM.slice (Rect.unit (s := S1024x1024) off S32x1024.size hin) hs).view.WordExact}
    {hsem : DmaTarget.Typed .vmem (.dma s2) (.remote (Dev.tc n : Thread nD τ) (oM.slice (Rect.unit (s := S1024x1024) off S32x1024.size hin) hs) (.dma s1) hsc)}
    {O₀ : CellTallies nD τ sig Unit} (O : CellTallies nD τ sig Unit) (hO : O₀ = O + tallyAt (dCell (nb c k) (vS w c)) () N) :
    iprop(records m ∗ debt (F := F) c O₀ ∗ outPts c c w (lent k) (outF m) ∗ (∃ f, outPts (F := F) (nb c k) c w fullShare f)
        ∗ dutyTok ER (dCell c (bS w k)) 0 c ∗ dutyTok ER (dCell (nb c k) (vS w c)) 0 c)
      ⊢ iprop(((debt (F := F) c O ∗ cred (tallyAt (dCell c (bS w k)) () N)) -∗
            wp frame (wpE (defs₀ (F := F)) 𝒱₀ (c : Thread nD τ) none) Set.univ (kt ⟨⟩) Q)
          -∗ wp frame (wpE (defs₀ (F := F)) 𝒱₀ (c : Thread nD τ) none) Set.univ
            (.op (.enqueueDma (oM.slice (Rect.unit (s := S1024x1024) off S32x1024.size hin) hs)
              (.remote (Dev.tc n : Thread nD τ) (oM.slice (Rect.unit (s := S1024x1024) off S32x1024.size hin) hs) (.dma s1) hsc)
              (.dma s2) hsrc hdst hsem) kt) Q) := by
  subst hn hs1 hs2
  unfold debt
  iintro ⟨#HR, ⟨%W, HO⟩, Hx, ⟨%f, Hs⟩, Ht1, Ht2⟩ Hk
  ihave #Hk1 := (known_dma m c (bS w k) (bS_ge w k)) $$ HR
  ihave #Hk2 := (known_dma m (nb c k) (vS w c) (vS_ge w c)) $$ HR
  unfold known
  icases Hk1 with ⟨⟨%κ₁, #HI1⟩, #Hr1⟩
  icases Hk2 with ⟨⟨%κ₂, #HI2⟩, #Hr2⟩
  unfold outPts
  rw [← set_o h hin hs]
  iapply (Rounds.wp_send_pointsTo 𝒱₀ ER (Rd m) (c : Thread nD τ) none (κ₁ := κ₁) (κ₂ := κ₂)
    (r₁ := 0) (r₂ := 0) (d₁ := c) (d₂ := c) (fd := f) (q := lent k) (fs := outF m)
    (by rw [duties_b]; exact Finset.mem_singleton_self _) (by rw [duties_v m (nb c k) w c (nb_ne c k).symm]; exact Finset.mem_singleton_self _)
    () () N rfl (amount_dma m c _ c) (amount_dma m (nb c k) _ c) O hO (W := W)
    (by rw [payload_b]; unfold outPts; rw [← set_o h hin hs])
    (by
      rw [payload_v]; unfold outPts; rw [← set_o h hin hs]
      exact Entails.of_eq (pointsTo_congr (by rw [set_o h hin hs]; exact landed_o c w h hin hs f (outF m))))) $$ [HO Hx Hs Ht1 Ht2]
  · isplitr; · iexact HI1
    isplitr; · iexact HI2
    isplitl [Hx]; · iexact Hx
    isplitl [Hs]; · iexact Hs
    isplitl [HO]; · iexact HO
    isplitl [Ht1]; · iexact Ht1
    isplitr; · iexact Hr1
    isplitl [Ht2]; · iexact Ht2
    iexact Hr2
  iintro ⟨Hc, HO⟩
  iapply Hk
  isplitl [HO]; · iexists W; iexact HO
  iexact Hc

variable {α : Type} {Q : α → sProp (MT nD τ sig Unit (Elt F) ℕ UU ℕ)} {R : sProp (MT nD τ sig Unit (Elt F) ℕ UU ℕ)} {i1 i2 i3 o i4 i5 i6 : ℕ}

/-- After the last step of both exchanges nothing is owed. -/
theorem above_none (n : ℕ) : Above n (orcv c 28 + obrc c 28) := by
  rw [orcv_end, obrc_end]; exact above_add (above_zero n) (above_zero n)

theorem above_recv (i : ℕ) : Above 2 (orcv c 28 + obrc c i) := by
  rw [orcv_end]; exact above_add (above_zero 2) (above_brc c i)

theorem step_send {kt : PUnit → Prog (TpuEff nD τ sig (Elt F) Λ₀ .tc) α} (hj : i1 < 28)
    {n : Dev nD} (hn : n = nb c (kOf i1)) {off : Fin 3 → ℕ} {off' : Fin 2 → ℕ}
    (h : off = ![8 * (wOf i1).val + c.val, 0, 0]) (h' : off' = ![128 * (nb c (kOf i1)).val + 32 * (wOf i1).val, 0]) {hin hs sq hin' hs'}
    {s1 s2 : DmaSem sig} (hs1 : s1 = sS (wOf i1) (kOf i1)) (hs2 : s2 = rS (wOf i1) c)
    {hsc : ((vM.slice (Rect.unit (s := S32x32x1024) off S1x32x1024.size hin) hs).squeeze S32x1024 sq).view.ref.isScScratch = false}
    {hsrc : (xbM.slice (Rect.unit (s := S1024x1024) off' S32x1024.size hin') hs').view.WordExact}
    {hdst : ((vM.slice (Rect.unit (s := S32x32x1024) off S1x32x1024.size hin) hs).squeeze S32x1024 sq).view.WordExact}
    {hsem : DmaTarget.Typed .vmem (.dma s2) (.remote (Dev.tc n : Thread nD τ) ((vM.slice (Rect.unit (s := S32x32x1024) off S1x32x1024.size hin) hs).squeeze S32x1024 sq) (.dma s1) hsc)}
    (hk : Mid m c R (i1 + 1) i2 i3 o i4 0 i6 ⊢ wp frame (wpE (defs₀ (F := F)) 𝒱₀ (c : Thread nD τ) none) Set.univ (kt ⟨⟩) Q) :
    Mid m c R i1 i2 i3 o i4 0 i6 ⊢ wp frame (wpE (defs₀ (F := F)) 𝒱₀ (c : Thread nD τ) none) Set.univ
      (.op (.enqueueDma (xbM.slice (Rect.unit (s := S1024x1024) off' S32x1024.size hin') hs')
              (.remote (Dev.tc n : Thread nD τ) ((vM.slice (Rect.unit (s := S32x32x1024) off S1x32x1024.size hin) hs).squeeze S32x1024 sq) (.dma s1) hsc)
              (.dma s2) hsrc hdst hsem) kt) Q := by
  unfold Mid at hk ⊢
  iintro ⟨#HR, HO, HS, HV, HB, Hown, HW, HX⟩
  ihave H := (sendQ_send m c hj) $$ HS
  unfold SendTodo SendGone
  icases H with ⟨⟨Hx, Hs, Ht1, Ht2, Hat⟩, Hback⟩
  iapply (send_x m c (wOf i1) (kOf i1) hn h h' hs1 hs2 (orcv c (i1 + 1) + obrc c i3)
    ((congrArg (· + obrc c i3) (orcv_pop c hj)).trans (add_right_comm _ _ _))) $$ [HO Hx Hs Ht1 Ht2]
  · isplitr; · iexact HR
    isplitl [HO]; · iexact HO
    isplitl [Hx]; · iexact Hx
    isplitl [Hs]; · iexact Hs
    isplitl [Ht1] <;> iassumption
  iintro ⟨HO, Hc⟩
  iapply hk
  isplitr; · iexact HR
  isplitl [HO]; · iexact HO
  isplitl [Hback Hc Hat]
  · iapply Hback; isplitl [Hc] <;> iassumption
  isplitl [HV]; · iexact HV
  isplitl [HB]; · iexact HB
  isplitl [Hown]; · iexact Hown
  isplitl [HW] <;> iassumption

theorem step_bsend {kt : PUnit → Prog (TpuEff nD τ sig (Elt F) Λ₀ .tc) α} (hj : i3 < 28) (ho : i3 < 7 * o)
    {n : Dev nD} (hn : n = nb c (kOf i3)) {off : Fin 2 → ℕ}
    (h : off = ![128 * c.val + 32 * (wOf i3).val, 0]) {hin hs}
    {s1 s2 : DmaSem sig} (hs1 : s1 = bS (wOf i3) (kOf i3)) (hs2 : s2 = vS (wOf i3) c)
    {hsc : (oM.slice (Rect.unit (s := S1024x1024) off S32x1024.size hin) hs).view.ref.isScScratch = false}
    {hsrc hdst : (oM.slice (Rect.unit (s := S1024x1024) off S32x1024.size hin) hs).view.WordExact}
    {hsem : DmaTarget.Typed .vmem (.dma s2) (.remote (Dev.tc n : Thread nD τ) (oM.slice (Rect.unit (s := S1024x1024) off S32x1024.size hin) hs) (.dma s1) hsc)}
    (hk : Mid m c R i1 i2 (i3 + 1) o i4 i5 0 ⊢ wp frame (wpE (defs₀ (F := F)) 𝒱₀ (c : Thread nD τ) none) Set.univ (kt ⟨⟩) Q) :
    Mid m c R i1 i2 i3 o i4 i5 0 ⊢ wp frame (wpE (defs₀ (F := F)) 𝒱₀ (c : Thread nD τ) none) Set.univ
      (.op (.enqueueDma (oM.slice (Rect.unit (s := S1024x1024) off S32x1024.size hin) hs)
              (.remote (Dev.tc n : Thread nD τ) (oM.slice (Rect.unit (s := S1024x1024) off S32x1024.size hin) hs) (.dma s1) hsc)
              (.dma s2) hsrc hdst hsem) kt) Q := by
  unfold Mid at hk ⊢
  iintro ⟨#HR, HO, HS, HV, HB, Hown, HW, HX⟩
  ihave H := (bq_send m c hj) $$ HB
  ihave Hl := (ownQ_lend m c ho) $$ Hown
  unfold BTodo BGone Leaf
  icases H with ⟨⟨Hs, Ht1, Ht2, Hat⟩, Hback⟩
  icases Hl with ⟨Hx, Hown⟩
  iapply (send_o m c (wOf i3) (kOf i3) hn h hs1 hs2 (orcv c i1 + obrc c (i3 + 1))
    ((congrArg (orcv c i1 + ·) (obrc_pop c hj)).trans (add_assoc _ _ _).symm)) $$ [HO Hx Hs Ht1 Ht2]
  · isplitr; · iexact HR
    isplitl [HO]; · iexact HO
    isplitl [Hx]; · iexact Hx
    isplitl [Hs]; · iexact Hs
    isplitl [Ht1] <;> iassumption
  iintro ⟨HO, Hc⟩
  iapply hk
  isplitr; · iexact HR
  isplitl [HO]; · iexact HO
  isplitl [HS]; · iexact HS
  isplitl [HV]; · iexact HV
  isplitl [Hback Hc Hat]
  · iapply Hback; isplitl [Hc] <;> iassumption
  isplitl [Hown]; · iexact Hown
  isplitl [HW] <;> iassumption

section
variable {kt : PUnit → Prog (TpuEff nD τ sig (Elt F) Λ₀ .tc) α} {s : DmaSem sig}
  {sp sp' : Space} {sh sh' : Shape} {e e' : EltTy} {src : Memref sig .tc sp' sh' e'} {dst : Memref sig .tc sp sh e}
  {h₁ : src.view.WordExact} {h₂ : dst.view.WordExact}

theorem step_recv (hj : i2 < 28) (hs : s = rS (wOf i2) (nb c (kOf i2))) (hN : dst.view.dmaCredit = N)
    (hk : Mid m c R 28 (i2 + 1) i3 o i4 i5 i6 ⊢ wp frame (wpE (defs₀ (F := F)) 𝒱₀ (c : Thread nD τ) none) Set.univ (kt ⟨⟩) Q) :
    Mid m c R 28 i2 i3 o i4 i5 i6 ⊢ wp frame (wpE (defs₀ (F := F)) 𝒱₀ (c : Thread nD τ) none) Set.univ (.op (.waitDma2 s src dst h₁ h₂) kt) Q := by
  unfold Mid at hk ⊢
  iintro ⟨#HR, HO, HS, HV, HX⟩
  unfold RecvQ at hk ⊢
  ihave H := (queue_step hj (Nat.zero_le i2) (RecvTodo (F := F) c) (RecvDone m c)) $$ HV
  unfold RecvTodo RecvDone
  icases H with ⟨⟨Hc, Hat⟩, Hback⟩
  iapply (wait_dma m c (nb c (kOf i2)) hs (rS_ge _ _) (duties_r m c _ _ (nb_ne c _)) hN 2 (lv_r c _ _)
    (above_recv c i3)) $$ [HO Hc Hat]
  · isplitr; · iexact HR
    isplitl [Hc]; · iexact Hc
    isplitl [HO] <;> iassumption
  rw [payload_r]
  iintro ⟨HO, Hat, Hp⟩
  iapply hk
  isplitr; · iexact HR
  isplitl [HO]; · iexact HO
  isplitl [HS]; · iexact HS
  isplitl [Hback Hp Hat]
  · iapply Hback; isplitl [Hp] <;> iassumption
  iexact HX

theorem step_brecv (hj : i4 < 28) (hs : s = vS (wOf i4) (nb c (kOf i4))) (hN : dst.view.dmaCredit = N)
    (hk : Mid m c R 28 i2 28 o (i4 + 1) i5 i6 ⊢ wp frame (wpE (defs₀ (F := F)) 𝒱₀ (c : Thread nD τ) none) Set.univ (kt ⟨⟩) Q) :
    Mid m c R 28 i2 28 o i4 i5 i6 ⊢ wp frame (wpE (defs₀ (F := F)) 𝒱₀ (c : Thread nD τ) none) Set.univ (.op (.waitDma2 s src dst h₁ h₂) kt) Q := by
  unfold Mid at hk ⊢
  iintro ⟨#HR, HO, HS, HV, HB, Hown, HW, HX⟩
  unfold BRecvQ at hk ⊢
  ihave H := (queue_step hj (Nat.zero_le i4) (BRecvTodo (F := F) c) (BRecvDone m c)) $$ HW
  unfold BRecvTodo BRecvDone
  icases H with ⟨⟨Hc, Hat⟩, Hback⟩
  iapply (wait_dma m c (nb c (kOf i4)) hs (vS_ge _ _) (duties_v m c _ _ (nb_ne c _)) hN 3 (lv_v c _ _)
    (above_none c 3)) $$ [HO Hc Hat]
  · isplitr; · iexact HR
    isplitl [Hc]; · iexact Hc
    isplitl [HO] <;> iassumption
  rw [payload_v]
  iintro ⟨HO, Hat, Hp⟩
  iapply hk
  isplitr; · iexact HR
  isplitl [HO]; · iexact HO
  isplitl [HS]; · iexact HS
  isplitl [HV]; · iexact HV
  isplitl [HB]; · iexact HB
  isplitl [Hown]; · iexact Hown
  isplitl [Hback Hp Hat]
  · iapply Hback; isplitl [Hp] <;> iassumption
  iexact HX

theorem step_swait (hj : i5 < 28) (hs : s = sS (wOf i5) (kOf i5)) (hN : dst.view.dmaCredit = N)
    (hk : Mid m c R 28 i2 28 o i4 (i5 + 1) i6 ⊢ wp frame (wpE (defs₀ (F := F)) 𝒱₀ (c : Thread nD τ) none) Set.univ (kt ⟨⟩) Q) :
    Mid m c R 28 i2 28 o i4 i5 i6 ⊢ wp frame (wpE (defs₀ (F := F)) 𝒱₀ (c : Thread nD τ) none) Set.univ (.op (.waitDma2 s src dst h₁ h₂) kt) Q := by
  unfold Mid at hk ⊢
  iintro ⟨#HR, HO, HS, HX⟩
  ihave H := (sendQ_wait m c hj) $$ HS
  unfold SendGone SendBack
  icases H with ⟨⟨Hc, Hat⟩, Hback⟩
  iapply (wait_dma m c c hs (sS_ge _ _) (duties_s m c _ _) hN _ rfl
    (above_none c _)) $$ [HO Hc Hat]
  · isplitr; · iexact HR
    isplitl [Hc]; · iexact Hc
    isplitl [HO] <;> iassumption
  rw [payload_s]
  iintro ⟨HO, Hat, Hp⟩
  iapply hk
  isplitr; · iexact HR
  isplitl [HO]; · iexact HO
  isplitl [Hback Hp Hat]
  · iapply Hback; isplitl [Hp] <;> iassumption
  iexact HX

theorem step_bwait (hj : i6 < 28) (hs : s = bS (wOf i6) (kOf i6)) (hN : dst.view.dmaCredit = N)
    (hk : Mid m c R 28 i2 28 o i4 i5 (i6 + 1) ⊢ wp frame (wpE (defs₀ (F := F)) 𝒱₀ (c : Thread nD τ) none) Set.univ (kt ⟨⟩) Q) :
    Mid m c R 28 i2 28 o i4 i5 i6 ⊢ wp frame (wpE (defs₀ (F := F)) 𝒱₀ (c : Thread nD τ) none) Set.univ (.op (.waitDma2 s src dst h₁ h₂) kt) Q := by
  unfold Mid at hk ⊢
  iintro ⟨#HR, HO, HS, HV, HB, HX⟩
  ihave H := (bq_wait m c hj) $$ HB
  unfold BGone BBack
  icases H with ⟨⟨Hc, Hat⟩, Hback⟩
  iapply (wait_dma m c c hs (bS_ge _ _) (duties_b m c _ _) hN _ rfl
    (above_none c _)) $$ [HO Hc Hat]
  · isplitr; · iexact HR
    isplitl [Hc]; · iexact Hc
    isplitl [HO] <;> iassumption
  rw [payload_b]
  iintro ⟨HO, Hat, Hp⟩
  iapply hk
  isplitr; · iexact HR
  isplitl [HO]; · iexact HO
  isplitl [HS]; · iexact HS
  isplitl [HV]; · iexact HV
  isplitl [Hback Hp Hat]
  · iapply Hback; isplitl [Hp] <;> iassumption
  iexact HX

end

/-! ## Loads and stores -/

theorem step_loadg {h hl} {kt : Vec F S1024 .bf16 → Prog (TpuEff nD τ sig (Elt F) Λ₀ .tc) α}
    (hk : Mid m c R i1 i2 i3 o i4 i5 i6 ⊢ wp frame (wpE (defs₀ (F := F)) 𝒱₀ (c : Thread nD τ) none) Set.univ (kt (gin m c)) Q) :
    Mid m c R i1 i2 i3 o i4 i5 i6 ⊢ wp frame (wpE (defs₀ (F := F)) 𝒱₀ (c : Thread nD τ) none) Set.univ (.op (.load gM (Rect.unit (s := S1024) ![0] S1024.size h).toLoadRect hl) kt) Q := by
  unfold Mid at hk ⊢
  iintro ⟨#HR, HO, HS, HV, HB, Hown, HW, Hx, Hr, Hg, HX⟩
  iapply (wp_load 𝒱₀ (c : Thread nD τ) none Set.univ (m := gM) (Finset.subset_univ _)) $$ Hg; iintro Hg
  rw [read_g]
  iapply hk
  isplitr; · iexact HR
  isplitl [HO]; · iexact HO
  isplitl [HS]; · iexact HS
  isplitl [HV]; · iexact HV
  isplitl [HB]; · iexact HB
  isplitl [Hown]; · iexact Hown
  isplitl [HW]; · iexact HW
  isplitl [Hx]; · iexact Hx
  isplitl [Hr]; · iexact Hr
  isplitl [Hg] <;> iassumption

theorem step_loadx {off : Fin 3 → ℕ} (h : off = ![0, 128 * c.val + 32 * (w4 o).val, 0]) {hin hl}
    {kt : Vec F S1x32x1024 .bf16 → Prog (TpuEff nD τ sig (Elt F) Λ₀ .tc) α}
    (hk : Mid m c R i1 i2 i3 o i4 i5 i6 ⊢ wp frame (wpE (defs₀ (F := F)) 𝒱₀ (c : Thread nD τ) none) Set.univ (kt (xrow m c (w4 o))) Q) :
    Mid m c R i1 i2 i3 o i4 i5 i6 ⊢ wp frame (wpE (defs₀ (F := F)) 𝒱₀ (c : Thread nD τ) none) Set.univ (.op (.load xM (Rect.unit (s := S1x1024x1024) off S1x32x1024.size hin).toLoadRect hl) kt) Q := by
  unfold Mid at hk ⊢
  iintro ⟨#HR, HO, HS, HV, HB, Hown, HW, Hx, HX⟩
  iapply (wp_load 𝒱₀ (c : Thread nD τ) none Set.univ (m := xM) (Finset.subset_univ _)) $$ Hx; iintro Hx
  rw [read_xrow m c (w4 o) h]
  iapply hk
  isplitr; · iexact HR
  isplitl [HO]; · iexact HO
  isplitl [HS]; · iexact HS
  isplitl [HV]; · iexact HV
  isplitl [HB]; · iexact HB
  isplitl [Hown]; · iexact Hown
  isplitl [HW]; · iexact HW
  isplitl [Hx] <;> iassumption

theorem step_loadr {off : Fin 2 → ℕ} (h : off = ![128 * c.val + 32 * (w4 o).val, 0]) {hin hl}
    {kt : Vec F S32x1024 .bf16 → Prog (TpuEff nD τ sig (Elt F) Λ₀ .tc) α}
    (hk : Mid m c R i1 i2 i3 o i4 i5 i6 ⊢ wp frame (wpE (defs₀ (F := F)) 𝒱₀ (c : Thread nD τ) none) Set.univ (kt (rrow m c (w4 o))) Q) :
    Mid m c R i1 i2 i3 o i4 i5 i6 ⊢ wp frame (wpE (defs₀ (F := F)) 𝒱₀ (c : Thread nD τ) none) Set.univ (.op (.load rM (Rect.unit (s := S1024x1024) off S32x1024.size hin).toLoadRect hl) kt) Q := by
  unfold Mid at hk ⊢
  iintro ⟨#HR, HO, HS, HV, HB, Hown, HW, Hx, Hr, HX⟩
  iapply (wp_load 𝒱₀ (c : Thread nD τ) none Set.univ (m := rM) (Finset.subset_univ _)) $$ Hr; iintro Hr
  rw [read_rrow m c (w4 o) h]
  iapply hk
  isplitr; · iexact HR
  isplitl [HO]; · iexact HO
  isplitl [HS]; · iexact HS
  isplitl [HV]; · iexact HV
  isplitl [HB]; · iexact HB
  isplitl [Hown]; · iexact Hown
  isplitl [HW]; · iexact HW
  isplitl [Hx]; · iexact Hx
  isplitl [Hr] <;> iassumption

/-- The load of the place that has just arrived. -/
theorem step_loadv {off : Fin 3 → ℕ} (h : off = ![8 * (wOf i2).val + (nb c (kOf i2)).val, 0, 0]) {hin hl}
    {kt : Vec F S1x32x1024 .bf16 → Prog (TpuEff nD τ sig (Elt F) Λ₀ .tc) α}
    (hk : Mid m c R i1 (i2 + 1) i3 o i4 i5 i6 ⊢ wp frame (wpE (defs₀ (F := F)) 𝒱₀ (c : Thread nD τ) none) Set.univ (kt (vrow m c (wOf i2) (kOf i2))) Q) :
    Mid m c R i1 (i2 + 1) i3 o i4 i5 i6 ⊢ wp frame (wpE (defs₀ (F := F)) 𝒱₀ (c : Thread nD τ) none) Set.univ (.op (.load vM (Rect.unit (s := S32x32x1024) off S1x32x1024.size hin).toLoadRect hl) kt) Q := by
  unfold Mid RecvQ queue at hk ⊢
  rw [bigSep_Ico_succ_top (Nat.zero_le i2)] at hk ⊢
  iintro ⟨#HR, HO, HS, ⟨HT, HD, HV⟩, HX⟩
  unfold RecvDone slotPts at hk ⊢
  icases HD with ⟨Hs, Hat⟩
  iapply (wp_load_rect 𝒱₀ (c : Thread nD τ) none Set.univ (m := vM) (r := Rect.unit (s := S32x32x1024) off S1x32x1024.size hin)
    (by rw [set_vload h hin])) $$ Hs; iintro Hs
  rw [read_vrow m c (wOf i2) (kOf i2) h]
  iapply hk
  isplitr; · iexact HR
  isplitl [HO]; · iexact HO
  isplitl [HS]; · iexact HS
  isplitl [HT Hs Hat HV]
  · isplitl [HT]; · iexact HT
    isplitl [Hs Hat]
    · isplitl [Hs] <;> iassumption
    iexact HV
  iexact HX

/-- The load of the row block about to be stored: what it reads is not used. -/
theorem step_loado (ho : o < 4) {off : Fin 2 → ℕ} (h : off = ![128 * c.val + 32 * (w4 o).val, 0]) {hin hl}
    {kt : Vec F S32x1024 .bf16 → Prog (TpuEff nD τ sig (Elt F) Λ₀ .tc) α}
    (hk : ∀ v, Mid m c R i1 i2 i3 o i4 i5 i6 ⊢ wp frame (wpE (defs₀ (F := F)) 𝒱₀ (c : Thread nD τ) none) Set.univ (kt v) Q) :
    Mid m c R i1 i2 i3 o i4 i5 i6 ⊢ wp frame (wpE (defs₀ (F := F)) 𝒱₀ (c : Thread nD τ) none) Set.univ (.op (.load oM (Rect.unit (s := S1024x1024) off S32x1024.size hin).toLoadRect hl) kt) Q := by
  unfold Mid OwnQ queue at hk ⊢
  rw [bigSep_Ico_succ_bot ho] at hk ⊢
  unfold OwnTodo outPts at hk ⊢
  iintro ⟨#HR, HO, HS, HV, HB, ⟨⟨⟨⟨%f, Hf⟩, HT⟩, HD⟩, HL⟩, HX⟩
  iapply (wp_load_rect 𝒱₀ (c : Thread nD τ) none Set.univ (m := oM) (r := Rect.unit (s := S1024x1024) off S32x1024.size hin)
    (by rw [set_oacc h hin])) $$ Hf; iintro Hf
  iapply (hk _)
  isplitr; · iexact HR
  isplitl [HO]; · iexact HO
  isplitl [HS]; · iexact HS
  isplitl [HV]; · iexact HV
  isplitl [HB]; · iexact HB
  isplitl [Hf HT HD HL]
  · isplitl [Hf HT HD]
    · isplitl [Hf HT]
      · isplitl [Hf]; · iexists f; iexact Hf
        iexact HT
      iexact HD
    iexact HL
  iexact HX

/-- The store of a computed row block. -/
theorem step_store (ho : o < 4) {off : Fin 2 → ℕ} (h : off = ![128 * c.val + 32 * (w4 o).val, 0]) {hin hx hm}
    {v : FVec F S32x1024 .bf16} (hv : v = yBlk m c (w4 o)) {kt : PUnit → Prog (TpuEff nD τ sig (Elt F) Λ₀ .tc) α}
    (h3 : i3 = 7 * o) (hk : Mid m c R i1 i2 i3 (o + 1) i4 i5 i6 ⊢ wp frame (wpE (defs₀ (F := F)) 𝒱₀ (c : Thread nD τ) none) Set.univ (kt ⟨⟩) Q) :
    Mid m c R i1 i2 i3 o i4 i5 i6 ⊢ wp frame (wpE (defs₀ (F := F)) 𝒱₀ (c : Thread nD τ) none) Set.univ (.op (.store oM (Rect.unit (s := S1024x1024) off S32x1024.size hin) v Finset.univ hx hm) kt) Q := by
  subst h3 hv
  unfold Mid at hk ⊢
  iintro ⟨#HR, HO, HS, HV, HB, Hown, HX⟩
  ihave H := (ownQ_store m c ho) $$ Hown
  unfold OwnTodo outPts
  icases H with ⟨⟨%f, Hf⟩, Hback⟩
  iapply (wp_store 𝒱₀ (c : Thread nD τ) none Set.univ (m := oM) (r := Rect.unit (s := S1024x1024) off S32x1024.size hin)
    (by rw [View.setOn_univ, set_oacc h hin])) $$ Hf; iintro Hf
  ihave Hf' := (Entails.of_eq (pointsTo_congr (stored_o m c (w4 o) h hin f))) $$ Hf
  iapply hk
  isplitr; · iexact HR
  isplitl [HO]; · iexact HO
  isplitl [HS]; · iexact HS
  isplitl [HV]; · iexact HV
  isplitl [HB]; · iexact HB
  isplitl [Hback Hf']
  · iapply Hback; iexact Hf'
  iexact HX

end

end Cert.AllReduce

end
-- ==== Proof.Body.lean ====
/-
# `Body`: the kernel's body

The handshake and the first store come before the state of `Steps`; then the body is one rule per effect.
-/
module

public import proofs.«01_k».proof.Proof.Steps

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem sep_emp_eq (P : sProp 𝕄) : iprop(P ∗ BI.emp) = P := equiv_iff.mp BI.sep_emp

/-! ## Families: over peers, over steps -/

omit [FloatOps F] in
/-- A family over the devices is its member at one of them and those at its seven peers. -/
theorem peers (c : Dev nD) (Φ : Dev nD → sProp 𝕄) : bigSep Finset.univ Φ = iprop(Φ c ∗ bigSep Finset.univ fun k : Fin 7 => Φ (nb c k)) := by
  rw [show (Finset.univ : Finset (Dev nD)) = insert c (Finset.univ.map ⟨nb c, nb_inj c⟩) by revert c; decide,
    bigSep_insert (by revert c; decide), bigSep_map]
  rfl
omit [FloatOps F] in
theorem peers_erase (c : Dev nD) (Φ : Dev nD → sProp 𝕄) : bigSep (Finset.univ.erase c) Φ = bigSep Finset.univ fun k : Fin 7 => Φ (nb c k) := by
  rw [show (Finset.univ : Finset (Dev nD)).erase c = Finset.univ.map ⟨nb c, nb_inj c⟩ by revert c; decide, bigSep_map]
  rfl
omit [FloatOps F] in
theorem steps7 (Φ : Fin 7 → sProp 𝕄) : (bigSep (Finset.Ico 0 7) fun j => Φ (kOf j)) = bigSep Finset.univ Φ := by
  rw [show Finset.Ico 0 7 = Finset.univ.map (Fin.valEmbedding : Fin 7 ↪ ℕ) by decide, bigSep_map]
  exact bigSep_congr fun k _ => congrArg Φ (by revert k; decide)
omit [FloatOps F] in
theorem steps4 (Φ : Fin 4 → sProp 𝕄) : (bigSep (Finset.Ico 0 4) fun j => Φ (w4 j)) = bigSep Finset.univ Φ := by
  rw [show Finset.Ico 0 4 = Finset.univ.map (Fin.valEmbedding : Fin 4 ↪ ℕ) by decide, bigSep_map]
  exact bigSep_congr fun k _ => congrArg Φ (by revert k; decide)
/-- A block and a peer are a step. -/
def stepEmb : Fin 7 × Fin 4 ↪ ℕ := ⟨fun p => 7 * p.2.val + p.1.val, fun p p' h => Prod.ext (Fin.ext (by simp only at h; omega)) (Fin.ext (by simp only at h; omega))⟩
omit [FloatOps F] in
theorem steps28 (Φ : Fin 4 → Fin 7 → sProp 𝕄) :
    (bigSep (Finset.Ico 0 28) fun j => Φ (wOf j) (kOf j)) = bigSep Finset.univ fun k : Fin 7 => bigSep Finset.univ fun w : Fin 4 => Φ w k := by
  rw [show Finset.Ico 0 28 = Finset.univ.map stepEmb by decide, bigSep_map, bigSep_univ_prod]
  exact bigSep_congr fun k _ => bigSep_congr fun w _ => by
    show Φ (wOf (7 * w.val + k.val)) (kOf (7 * w.val + k.val)) = _
    rw [(split_step w k).1, (split_step w k).2]
omit [FloatOps F] in
/-- A family over devices and blocks is one over blocks at the device itself, and one over the steps at its peers. -/
theorem blocks_split (c : Dev nD) (Φ : Dev nD → Fin 4 → sProp 𝕄) :
    (bigSep Finset.univ fun p : Dev nD × Fin 4 => Φ p.1 p.2)
      = iprop((bigSep Finset.univ fun w : Fin 4 => Φ c w) ∗ bigSep (Finset.Ico 0 28) fun j => Φ (nb c (kOf j)) (wOf j)) := by
  rw [bigSep_univ_prod, peers c, steps28 fun w k => Φ (nb c k) w]

/-! ## The handshake -/

section
variable (c : Dev nD)

/-- What a device's signal to a peer takes: the duty's token, and the places it hands over. -/
def SigTodo (j : ℕ) : sProp 𝕄 := iprop(dutyTok ER (barCell (nb c (kOf j))) 0 c ∗ barPay (F := F) (nb c (kOf j)) c)

/-- The tokens and positions of the departures, before the peers' places have come. -/
def SendTok (j : ℕ) : sProp 𝕄 :=
  iprop(dutyTok ER (dCell c (sS (wOf j) (kOf j))) 0 c ∗ dutyTok ER (dCell (nb c (kOf j)) (rS (wOf j) c)) 0 c
    ∗ atPos ER (dCell c (sS (wOf j) (kOf j))) 0 ∅ 0)
def BTok (j : ℕ) : sProp 𝕄 :=
  iprop(dutyTok ER (dCell c (bS (wOf j) (kOf j))) 0 c ∗ dutyTok ER (dCell (nb c (kOf j)) (vS (wOf j) c)) 0 c
    ∗ atPos ER (dCell c (bS (wOf j) (kOf j))) 0 ∅ 0)
/-- What no effect touches: the place for its own addend, and its two arrival semaphores for itself. -/
def Idle (w : Fin 4) : sProp 𝕄 :=
  iprop((∃ f, slotPts (F := F) c w c f) ∗ atPos ER (dCell c (rS w c)) 0 ∅ 0 ∗ atPos ER (dCell c (vS w c)) 0 ∅ 0)

def Keep : sProp 𝕄 :=
  iprop((bigSep (Finset.Ico 0 28) (SendTok (F := F) c)) ∗ RecvQ m c 0 ∗ (bigSep (Finset.Ico 0 28) (BTok (F := F) c)) ∗ BRecvQ m c 0
    ∗ (bigSep (Finset.Ico 0 4) (OwnTodo (F := F) c)) ∗ (bigSep Finset.univ (Idle (F := F) c))
    ∗ (xM.view.loc (c : Thread nD τ) ↦{fullShare} xin m c) ∗ (rM.view.loc (c : Thread nD τ) ↦{fullShare} rin m c)
    ∗ (gM.view.loc (c : Thread nD τ) ↦{fullShare} gin m c) ∗ (∃ f, xbM.view.loc (c : Thread nD τ) ↦{fullShare} f))

/-- Before the handshake is over: `i` signals sent. -/
def Pre (i : ℕ) : sProp 𝕄 :=
  iprop(records m ∗ debt c (orcv c 0 + obrc c 0 + obar c i) ∗ bigSep (Finset.Ico i 7) (SigTodo (F := F) c)
    ∗ cred (tallyAt (barCell c) () 7) ∗ atPos ER (barCell c) 0 ∅ 0 ∗ Keep m c)
/-- After it. -/
def Met : sProp 𝕄 :=
  iprop(records m ∗ debt c (orcv c 0 + obrc c 0) ∗ (bigSep (Finset.Ico 0 28) fun j => placeOf (F := F) (nb c (kOf j)) c (wOf j))
    ∗ atPos ER (barCell c) 1 ∅ 0 ∗ Keep m c)
/-- What stays put from there on. -/
def Rest : sProp 𝕄 :=
  iprop((bigSep Finset.univ (Idle (F := F) c)) ∗ (bigSep Finset.univ fun w : Fin 4 => xbPts m c c w) ∗ atPos ER (barCell c) 1 ∅ 0)

variable {α : Type} {Q : α → sProp (MT nD τ sig Unit (Elt F) ℕ UU ℕ)}

theorem step_signal {i : ℕ} (hi : i < 7) {kt : PUnit → Prog (TpuEff nD τ sig (Elt F) Λ₀ .tc) α} {n : Dev nD} (hn : n = nb c (kOf i))
    (hk : Pre m c (i + 1) ⊢ wp frame (wpE (defs₀ (F := F)) 𝒱₀ (c : Thread nD τ) none) Set.univ (kt ⟨⟩) Q) :
    Pre m c i ⊢ wp frame (wpE (defs₀ (F := F)) 𝒱₀ (c : Thread nD τ) none) Set.univ (.op (.semSignal (n, .tc) barS 1) kt) Q := by
  subst hn
  unfold Pre debt at hk ⊢
  rw [bigSep_Ico_succ_bot hi]
  iintro ⟨#HR, ⟨%W, HO⟩, ⟨Hi, HS⟩, HX⟩
  unfold SigTodo
  icases Hi with ⟨Ht, Hp⟩
  ihave #Hk := (known_bar m (nb c (kOf i))) $$ HR
  unfold known
  icases Hk with ⟨⟨%κ, #HI⟩, #Hr⟩
  iapply (Rounds.wp_signal 𝒱₀ ER (Rd m) (c : Thread nD τ) none (dst := (nb c (kOf i) : Thread nD τ)) (κ := κ) (k' := 1)
      (d := c) (by rw [duties_bar]; exact Finset.mem_erase.mpr ⟨(nb_ne c _).symm, Finset.mem_univ _⟩) (amount_bar m (nb c (kOf i)) c) ()
      (orcv c 0 + obrc c 0 + obar c (i + 1)) ((congrArg (orcv c 0 + obrc c 0 + ·) (obar_pop c hi)).trans (add_assoc _ _ _).symm))
    $$ [HO Ht Hp]
  · isplitr; · iexact HI
    isplitl [HO]; · iexact HO
    isplitl [Ht]; · iexact Ht
    isplitl [Hp]; · rw [payload_bar]; iexact Hp
    iexact Hr
  iintro HO
  iapply hk
  isplitr; · iexact HR
  isplitl [HO]; · iexists W; iexact HO
  isplitl [HS]; · iexact HS
  iexact HX

/-- What the wait for all seven signals hands over. -/
theorem met_places : (bigSep ((Rd m).duties (barCell c) 0 \ ∅) fun d => (Rd m).payload (barCell c) 0 d)
    = bigSep (Finset.Ico 0 28) fun j => placeOf (F := F) (nb c (kOf j)) c (wOf j) := by
  rw [Finset.sdiff_empty, duties_bar, peers_erase, steps28 fun w k => placeOf (F := F) (nb c k) c w]
  exact bigSep_congr fun k _ => payload_bar m c (nb c k)

theorem step_meet {kt : PUnit → Prog (TpuEff nD τ sig (Elt F) Λ₀ .tc) α}
    (hk : Met m c ⊢ wp frame (wpE (defs₀ (F := F)) 𝒱₀ (c : Thread nD τ) none) Set.univ (kt ⟨⟩) Q) :
    Pre m c 7 ⊢ wp frame (wpE (defs₀ (F := F)) 𝒱₀ (c : Thread nD τ) none) Set.univ (.op (.semWait barS 7) kt) Q := by
  unfold Pre debt
  unfold Met debt at hk
  rw [obar_end, add_zero]
  iintro ⟨#HR, ⟨%W, HO⟩, -, Hc, Hat, HX⟩
  ihave #Hk := (known_bar m c) $$ HR
  ihave #Hlev := (levels m) $$ HR
  unfold known
  icases Hk with ⟨⟨%κ, #HI⟩, #Hr⟩
  iapply (Rounds.wp_wait_rest_token 𝒱₀ ER (Rd m) (c : Thread nD τ) none (κ := κ)
      (wpE_semWait_eq 𝒱₀ (c : Thread nD τ) none Set.univ) (Set.mem_univ _) () (O := orcv c 0 + obrc c 0) (W := W) (R := 0) (m := 0) (T := ∅)
      (by rw [expect_bar])) $$ [Hc HO Hat]
  · isplitr; · iexact HI
    isplitl [Hc]; · iexact Hc
    isplitl [HO]; · iexact HO
    isplitr; · iapply (mayWait c (.reg barS) 1 (lv_bar c) (above_add (above_rcv c 0) ((above_brc c 0).mono (by decide)))); iexact Hlev
    iexact Hat
  iintro ⟨HO, Hat, -, Hpay⟩
  iapply hk
  isplitr; · iexact HR
  isplitl [HO]; · iexists _; iexact HO
  isplitl [Hpay]
  · iapply (Entails.of_eq (met_places m c)); iexact Hpay
  isplitl [Hat] <;> iassumption

theorem step_load0 {h hl} {kt : Vec F S1x1024x1024 .bf16 → Prog (TpuEff nD τ sig (Elt F) Λ₀ .tc) α}
    (hk : Met m c ⊢ wp frame (wpE (defs₀ (F := F)) 𝒱₀ (c : Thread nD τ) none) Set.univ (kt (xin m c)) Q) :
    Met m c ⊢ wp frame (wpE (defs₀ (F := F)) 𝒱₀ (c : Thread nD τ) none) Set.univ
      (.op (.load xM (Rect.unit (s := S1x1024x1024) ![0, 0, 0] S1x1024x1024.size h).toLoadRect hl) kt) Q := by
  unfold Met Keep at hk ⊢
  iintro ⟨#HR, HO, HP, Hat, H1, H2, H3, H4, H5, H6, Hx, HX⟩
  iapply (wp_load 𝒱₀ (c : Thread nD τ) none Set.univ (m := xM) (Finset.subset_univ _)) $$ Hx; iintro Hx
  rw [read_x]
  iapply hk
  isplitr; · iexact HR
  isplitl [HO]; · iexact HO
  isplitl [HP]; · iexact HP
  isplitl [Hat]; · iexact Hat
  isplitl [H1]; · iexact H1
  isplitl [H2]; · iexact H2
  isplitl [H3]; · iexact H3
  isplitl [H4]; · iexact H4
  isplitl [H5]; · iexact H5
  isplitl [H6]; · iexact H6
  isplitl [Hx] <;> iassumption

theorem step_load1 {h hl} {kt : Vec F S1024x1024 .bf16 → Prog (TpuEff nD τ sig (Elt F) Λ₀ .tc) α}
    (hk : ∀ v, Met m c ⊢ wp frame (wpE (defs₀ (F := F)) 𝒱₀ (c : Thread nD τ) none) Set.univ (kt v) Q) :
    Met m c ⊢ wp frame (wpE (defs₀ (F := F)) 𝒱₀ (c : Thread nD τ) none) Set.univ
      (.op (.load xbM (Rect.unit (s := S1024x1024) ![0, 0] S1024x1024.size h).toLoadRect hl) kt) Q := by
  unfold Met Keep at hk ⊢
  iintro ⟨#HR, HO, HP, Hat, H1, H2, H3, H4, H5, H6, H7, H8, H9, ⟨%f, Hx⟩⟩
  iapply (wp_load 𝒱₀ (c : Thread nD τ) none Set.univ (m := xbM) (Finset.subset_univ _)) $$ Hx; iintro Hx
  iapply (hk _)
  isplitr; · iexact HR
  isplitl [HO]; · iexact HO
  isplitl [HP]; · iexact HP
  isplitl [Hat]; · iexact Hat
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists f; iexact Hx

/-- The addend's buffer, in the blocks it is sent by. -/
theorem xb_split : (xbM.view.loc (c : Thread nD τ) ↦{fullShare} xbF m c : sProp 𝕄)
    = iprop((bigSep Finset.univ fun w : Fin 4 => xbPts m c c w) ∗ bigSep (Finset.Ico 0 28) fun j => xbPts m c (nb c (kOf j)) (wOf j)) := by
  exact (Ring.pointsTo_blocks (ℓ := xbM.view.loc (c : Thread nD τ)) (B := Dev nD × Fin 4) (fun p => rowSet p.1 p.2)
    (fun p p' h => rowSet_disjoint p p' h) rowSet_cover (xbF m c)).trans (blocks_split c fun s w => xbPts m c s w)

theorem sendQ_start : iprop((bigSep (Finset.Ico 0 28) fun j => xbPts m c (nb c (kOf j)) (wOf j))
      ∗ (bigSep (Finset.Ico 0 28) fun j => iprop(∃ f, slotPts (F := F) (nb c (kOf j)) (wOf j) c f)) ∗ bigSep (Finset.Ico 0 28) (SendTok (F := F) c))
    = SendQ m c 0 0 := by
  rw [← bigSep_sep', ← bigSep_sep']
  unfold SendQ
  rw [Finset.Ico_self, bigSep_empty, bigSep_empty, sep_emp_eq, sep_emp_eq]
  rfl
theorem bQ_start : iprop((bigSep (Finset.Ico 0 28) fun j => iprop(∃ f, outPts (F := F) (nb c (kOf j)) c (wOf j) fullShare f))
      ∗ bigSep (Finset.Ico 0 28) (BTok (F := F) c)) = BQ m c 0 0 := by
  rw [← bigSep_sep']
  unfold BQ
  rw [Finset.Ico_self, bigSep_empty, bigSep_empty, sep_emp_eq, sep_emp_eq]
  rfl
theorem ownQ_start : bigSep (Finset.Ico 0 4) (OwnTodo (F := F) c) = OwnQ m c 0 0 := by
  unfold OwnQ queue
  rw [Nat.mul_zero, Finset.Ico_self, bigSep_empty, bigSep_empty, sep_emp_eq, sep_emp_eq]

theorem step_store0 {h hx hm} {kt : PUnit → Prog (TpuEff nD τ sig (Elt F) Λ₀ .tc) α}
    (hk : Mid m c (Rest m c) 0 0 0 0 0 0 0 ⊢ wp frame (wpE (defs₀ (F := F)) 𝒱₀ (c : Thread nD τ) none) Set.univ (kt ⟨⟩) Q) :
    Met m c ⊢ wp frame (wpE (defs₀ (F := F)) 𝒱₀ (c : Thread nD τ) none) Set.univ
      (.op (.store xbM (Rect.unit (s := S1024x1024) ![0, 0] S1024x1024.size h) (k0_pay1 (xin m c)) Finset.univ hx hm) kt) Q := by
  unfold Met Keep
  unfold Mid Rest at hk
  iintro ⟨#HR, HO, HP, Hat, H1, H2, H3, H4, H5, H6, H7, H8, H9, ⟨%f, Hx⟩⟩
  iapply (wp_store 𝒱₀ (c : Thread nD τ) none Set.univ (m := xbM) (r := Rect.unit (s := S1024x1024) ![0, 0] S1024x1024.size h) (Mk := Finset.univ)
    (Finset.subset_univ _)) $$ Hx; iintro Hx
  rw [write_xb]
  ihave Hb := (Entails.of_eq (xb_split m c)) $$ Hx
  icases Hb with ⟨Hown, Hb⟩
  unfold placeOf
  ihave HP' := (Entails.of_eq (bigSep_sep' (Finset.Ico 0 28) (fun j => iprop(∃ f, slotPts (F := F) (nb c (kOf j)) (wOf j) c f))
    (fun j => iprop(∃ f, outPts (F := F) (nb c (kOf j)) c (wOf j) fullShare f)))) $$ HP
  icases HP' with ⟨HPs, HPo⟩
  iapply hk
  isplitr; · iexact HR
  isplitl [HO]; · iexact HO
  isplitl [H1 Hb HPs]
  · iapply (Entails.of_eq (sendQ_start m c)); isplitl [Hb]; · iexact Hb
    isplitl [HPs] <;> iassumption
  isplitl [H2]; · iexact H2
  isplitl [H3 HPo]
  · iapply (Entails.of_eq (bQ_start m c)); isplitl [HPo] <;> iassumption
  isplitl [H5]; · iapply (Entails.of_eq (ownQ_start m c)); iexact H5
  isplitl [H4]; · iexact H4
  isplitl [H7]; · iexact H7
  isplitl [H8]; · iexact H8
  isplitl [H9]; · iexact H9
  isplitl [H6]; · iexact H6
  isplitl [Hown] <;> iassumption

end

end Cert.AllReduce

end
-- ==== Proof.Exit.lean ====
/-
# `Exit`: what a device holds when its body is done

Every semaphore has seen its round and closes at zero, and the blocks of each buffer join.
-/
module

public import proofs.«01_k».proof.Proof.Body

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The semaphores, by what they are for -/

/-- The kernel's own semaphores: departures and arrivals of the first exchange, then of the second. -/
abbrev Use : Type := (Fin 7 × Fin 4) ⊕ (Dev nD × Fin 4) ⊕ (Fin 7 × Fin 4) ⊕ (Dev nD × Fin 4)
def useSem : Use → DmaSem sig
  | .inl p => sS p.2 p.1
  | .inr (.inl p) => rS p.2 p.1
  | .inr (.inr (.inl p)) => bS p.2 p.1
  | .inr (.inr (.inr p)) => vS p.2 p.1
def qsem (i : Fin 120) : DmaSem sig := ⟨4 + i.val, by show _ < 124; omega⟩
def useIdx (u : Use) : Fin 120 := ⟨(useSem u).val - 4, by have : (useSem u).val < 124 := (useSem u).isLt; omega⟩

theorem useSem_ge (u : Use) : 4 ≤ (useSem u).val := by
  rcases u with p | p | p | p
  · exact sS_ge _ _
  · exact rS_ge _ _
  · exact bS_ge _ _
  · exact vS_ge _ _
theorem qsem_useIdx (u : Use) : qsem (useIdx u) = useSem u := Fin.ext (Nat.add_sub_of_le (useSem_ge u))
theorem useIdx_bijective : Function.Bijective useIdx := by
  rw [Fintype.bijective_iff_injective_and_card]
  exact ⟨by decide +kernel, by decide⟩

omit [FloatOps F] in
/-- A family over the kernel's semaphores, seen from device `c`: each exchange's departures, its arrivals from the
    device itself, which nobody uses, and from its peers. -/
theorem sems_split (c : Dev nD) (Ψ : DmaSem sig → sProp 𝕄) :
    (bigSep Finset.univ fun i : Fin 120 => Ψ (qsem i))
      = iprop((bigSep (Finset.Ico 0 28) fun j => Ψ (sS (wOf j) (kOf j)))
        ∗ ((bigSep Finset.univ fun w : Fin 4 => Ψ (rS w c)) ∗ bigSep (Finset.Ico 0 28) fun j => Ψ (rS (wOf j) (nb c (kOf j))))
        ∗ (bigSep (Finset.Ico 0 28) fun j => Ψ (bS (wOf j) (kOf j)))
        ∗ ((bigSep Finset.univ fun w : Fin 4 => Ψ (vS w c)) ∗ bigSep (Finset.Ico 0 28) fun j => Ψ (vS (wOf j) (nb c (kOf j))))) := by
  rw [← blocks_split c fun s w => Ψ (rS w s), ← blocks_split c fun s w => Ψ (vS w s), steps28 fun w k => Ψ (sS w k), steps28 fun w k => Ψ (bS w k),
    ← bigSep_univ_prod fun p : Fin 7 × Fin 4 => Ψ (sS p.2 p.1), ← bigSep_univ_prod fun p : Fin 7 × Fin 4 => Ψ (bS p.2 p.1),
    bigSep_univ_equiv (Equiv.ofBijective useIdx useIdx_bijective) fun i => Ψ (qsem i),
    (bigSep_congr fun u _ => congrArg Ψ (qsem_useIdx u) :
      (bigSep Finset.univ fun u => Ψ (qsem (Equiv.ofBijective useIdx useIdx_bijective u))) = bigSep Finset.univ fun u => Ψ (useSem u)), bigSep_univ_sum, bigSep_univ_sum, bigSep_univ_sum]
  rfl

section
variable (c : Dev nD)

omit [FloatOps F] in
/-- A family holding under an update, together with what is known throughout. -/
theorem family_upd {I : Type} [DecidableEq I] {S : Finset I} {R : sProp 𝕄} [BI.Persistent R] {Φ Ψ : I → sProp 𝕄}
    (h : ∀ i ∈ S, iprop(R ∗ Φ i) ⊢ iprop(|={Set.univ}=> Ψ i)) : iprop(R ∗ bigSep S Φ) ⊢ iprop(|={Set.univ}=> bigSep S Ψ) :=
  (sep_mono_left (BI.bigSep_of_persistent S R)).trans (by rw [← bigSep_sep']; exact (bigSep_mono h).trans (bigSep_fupd _ _))

theorem close_dma {q : DmaSem sig} (h : 4 ≤ q.val) {R : ℕ} (hR : ∀ r, R ≤ r → (Rd m).duties (dCell c q) r = ∅) :
    iprop(records m ∗ atPos ER (dCell c q) R ∅ 0) ⊢ iprop(|={Set.univ}=> semVal (dCell c q) 0) := by
  iintro ⟨#HR, Hat⟩
  ihave #Hk := (known_dma m c q h) $$ HR
  unfold known
  icases Hk with ⟨⟨%κ, #HI⟩, -⟩
  iapply (Rounds.cell_close ER (Rd m) (Set.mem_univ κ) (fun h => h) hR)
  isplitr; · iexact HI
  iexact Hat
theorem close_bar : iprop(records m ∗ atPos ER (barCell c) 1 ∅ 0) ⊢ iprop(|={Set.univ}=> semVal (barCell c) 0) := by
  iintro ⟨#HR, Hat⟩
  ihave #Hk := (known_bar m c) $$ HR
  unfold known
  icases Hk with ⟨⟨%κ, #HI⟩, -⟩
  iapply (Rounds.cell_close ER (Rd m) (Set.mem_univ κ) (fun h => h) (R := 1) (duties_later m (barCell c)))
  isplitr; · iexact HI
  iexact Hat

/-- Over the steps: each semaphore closes, and what came with it stays. -/
theorem close_steps (q : ℕ → DmaSem sig) (h : ∀ j, 4 ≤ (q j).val) (X : ℕ → sProp 𝕄) :
    iprop(records m ∗ bigSep (Finset.Ico 0 28) fun j => iprop(X j ∗ atPos ER (dCell c (q j)) 1 ∅ 0))
      ⊢ iprop(|={Set.univ}=> (bigSep (Finset.Ico 0 28) X ∗ bigSep (Finset.Ico 0 28) fun j => semVal (dCell c (q j)) 0)) := by
  rw [← bigSep_sep']
  refine family_upd fun j _ => ?_
  iintro ⟨#HR, HX, Hat⟩
  imod (close_dma m c (h j) (duties_later m (dCell c (q j)))) $$ [Hat] with Hv
  · isplitr; · iexact HR
    iexact Hat
  imodintro
  isplitl [HX] <;> iassumption
/-- The two arrival semaphores of a block that the device keeps for itself. -/
theorem close_idle :
    iprop(records m ∗ bigSep Finset.univ (Idle (F := F) c))
      ⊢ iprop(|={Set.univ}=> ((bigSep Finset.univ fun w : Fin 4 => iprop(∃ f, slotPts (F := F) c w c f))
        ∗ (bigSep Finset.univ fun w : Fin 4 => semVal (dCell c (rS w c)) 0) ∗ bigSep Finset.univ fun w : Fin 4 => semVal (dCell c (vS w c)) 0)) := by
  rw [← bigSep_sep', ← bigSep_sep']
  refine family_upd fun w _ => ?_
  unfold Idle
  iintro ⟨#HR, HX, Hr, Hv⟩
  imod (close_dma m c (rS_ge w c) (duties_none m c (unused_r c w))) $$ [Hr] with Hr
  · isplitr; · iexact HR
    iexact Hr
  imod (close_dma m c (vS_ge w c) (duties_none m c (unused_v c w))) $$ [Hv] with Hv
  · isplitr; · iexact HR
    iexact Hv
  imodintro
  isplitl [HX]; · iexact HX
  isplitl [Hr] <;> iassumption

/-! ## The buffers -/

theorem some_slot (w : Fin 4) (s : Dev nD) (f : (cc0_scratch1 : Ref sig .tc).ty.Contents (Elt F)) : slotPts (F := F) c w s f ⊢ iprop(∃ f, slotPts (F := F) c w s f) := by
  iintro H; iexists f; iexact H
theorem slots_join (f₀ : (cc0_scratch1 : Ref sig .tc).ty.Contents (Elt F)) :
    iprop((bigSep Finset.univ fun w : Fin 4 => iprop(∃ f, slotPts (F := F) c w c f))
        ∗ bigSep (Finset.Ico 0 28) fun j => iprop(∃ f, slotPts (F := F) c (wOf j) (nb c (kOf j)) f))
      ⊢ iprop(∃ f, vM.view.loc (c : Thread nD τ) ↦{fullShare} f) := by
  refine (Entails.of_eq (blocks_split c fun s w => iprop(∃ f, slotPts (F := F) c w s f)).symm).trans ?_
  exact Ring.pointsTo_blocks_join_exists (ℓ := vM.view.loc (c : Thread nD τ)) (B := Dev nD × Fin 4) (fun p => slotSet p.2 p.1)
    (fun p p' h => slotSet_disjoint p p' h) slotSet_cover f₀
theorem slots_split (f : (cc0_scratch1 : Ref sig .tc).ty.Contents (Elt F)) :
    (vM.view.loc (c : Thread nD τ) ↦{fullShare} f : sProp 𝕄)
      = iprop((bigSep Finset.univ fun w : Fin 4 => slotPts (F := F) c w c f) ∗ bigSep (Finset.Ico 0 28) fun j => slotPts (F := F) c (wOf j) (nb c (kOf j)) f) :=
  (Ring.pointsTo_blocks (ℓ := vM.view.loc (c : Thread nD τ)) (B := Dev nD × Fin 4) (fun p => slotSet p.2 p.1)
    (fun p p' h => slotSet_disjoint p p' h) slotSet_cover f).trans (blocks_split c fun s w => slotPts (F := F) c w s f)
theorem out_split (f : (cc0_stg3_0 : Ref sig .tc).ty.Contents (Elt F)) :
    (oM.view.loc (c : Thread nD τ) ↦{fullShare} f : sProp 𝕄)
      = iprop((bigSep Finset.univ fun w : Fin 4 => outPts (F := F) c c w fullShare f)
        ∗ bigSep (Finset.Ico 0 28) fun j => outPts (F := F) c (nb c (kOf j)) (wOf j) fullShare f) :=
  (Ring.pointsTo_blocks (ℓ := oM.view.loc (c : Thread nD τ)) (B := Dev nD × Fin 4) (fun p => rowSet p.1 p.2)
    (fun p p' h => rowSet_disjoint p p' h) rowSet_cover f).trans (blocks_split c fun s w => outPts (F := F) c s w fullShare f)
/-- The device's own rows: the shares it kept and those it lent. -/
theorem own_join : iprop(bigSep (Finset.Ico 0 4) (OwnDone m c) ∗ bigSep (Finset.Ico 0 28) fun j => outPts c c (wOf j) (lent (kOf j)) (outF m))
    = bigSep Finset.univ fun w : Fin 4 => outPts c c w fullShare (outF m) := by
  rw [bigSep_congr (Ψ := fun w : Fin 4 => iprop(outPts (F := F) c c w kept (outF m) ∗ bigSep Finset.univ fun k : Fin 7 => outPts (F := F) c c w (lent k) (outF m)))
      fun w _ => leaves c w (outF m), bigSep_sep', steps28 fun w k => outPts (F := F) c c w (lent k) (outF m), bigSep_univ_comm]
  unfold OwnDone
  rw [steps4 fun w => outPts (F := F) c c w kept (outF m)]

/-! ## The end -/

/-- What the body leaves. -/
def Done : sProp 𝕄 :=
  iprop((∃ f, xbM.view.loc (c : Thread nD τ) ↦{fullShare} f) ∗ (∃ f, vM.view.loc (c : Thread nD τ) ↦{fullShare} f)
    ∗ (bigSep Finset.univ fun i : Fin 120 => semVal (dCell c (qsem i)) 0) ∗ semVal (barCell c) 0 ∗ debt c 0
    ∗ (xM.view.loc (c : Thread nD τ) ↦{fullShare} xin m c) ∗ (rM.view.loc (c : Thread nD τ) ↦{fullShare} rin m c)
    ∗ (gM.view.loc (c : Thread nD τ) ↦{fullShare} gin m c) ∗ (oM.view.loc (c : Thread nD τ) ↦{fullShare} outF m))

theorem body_done : Mid m c (Rest m c) 28 28 28 4 28 28 28 ⊢ iprop(|={Set.univ}=> Done m c) := by
  unfold Mid SendQ RecvQ BQ OwnQ BRecvQ queue Rest SendBack RecvDone BBack BRecvDone
  rw [orcv_end, obrc_end, add_zero]
  iintro ⟨#HR, HO, ⟨-, -, HS⟩, ⟨-, HV⟩, ⟨-, -, HB⟩, ⟨⟨-, Hown⟩, -⟩, ⟨-, HW⟩, Hx, Hr, Hg, Hidle, Hxb, Hbar⟩
  imod (close_steps m c (fun j => sS (wOf j) (kOf j)) (fun j => sS_ge _ _) (fun j => xbPts m c (nb c (kOf j)) (wOf j))) $$ [HS] with ⟨HS, HzS⟩
  · isplitr; · iexact HR
    iexact HS
  imod (close_steps m c (fun j => rS (wOf j) (nb c (kOf j))) (fun j => rS_ge _ _) (fun j => slotPts c (wOf j) (nb c (kOf j)) (recvF m c))) $$ [HV] with ⟨HV, HzV⟩
  · isplitr; · iexact HR
    iexact HV
  imod (close_steps m c (fun j => bS (wOf j) (kOf j)) (fun j => bS_ge _ _) (fun j => outPts c c (wOf j) (lent (kOf j)) (outF m))) $$ [HB] with ⟨HB, HzB⟩
  · isplitr; · iexact HR
    iexact HB
  imod (close_steps m c (fun j => vS (wOf j) (nb c (kOf j))) (fun j => vS_ge _ _) (fun j => outPts c (nb c (kOf j)) (wOf j) fullShare (outF m))) $$ [HW] with ⟨HW, HzW⟩
  · isplitr; · iexact HR
    iexact HW
  imod (close_idle m c) $$ [Hidle] with ⟨Hsl, Hz1, Hz2⟩
  · isplitr; · iexact HR
    iexact Hidle
  imod (close_bar m c) $$ [Hbar] with Hbar
  · isplitr; · iexact HR
    iexact Hbar
  imodintro
  unfold Done
  isplitl [Hxb HS]
  · iexists (xbF m c); iapply (Entails.of_eq (xb_split m c).symm); isplitl [Hxb] <;> iassumption
  isplitl [Hsl HV]
  · iapply (slots_join c (recvF m c))
    isplitl [Hsl]; · iexact Hsl
    iapply (show (bigSep (Finset.Ico 0 28) fun j => slotPts c (wOf j) (nb c (kOf j)) (recvF m c))
      ⊢ bigSep (Finset.Ico 0 28) fun j => iprop(∃ f, slotPts (F := F) c (wOf j) (nb c (kOf j)) f) from
        bigSep_mono fun j _ => some_slot c _ _ _)
    iexact HV
  isplitl [HzS HzV HzB HzW Hz1 Hz2]
  · iapply (Entails.of_eq (sems_split c fun q => semVal (dCell c q) 0).symm)
    isplitl [HzS]; · iexact HzS
    isplitl [HzV Hz1]
    · isplitl [Hz1] <;> iassumption
    isplitl [HzB]; · iexact HzB
    isplitl [Hz2] <;> iassumption
  isplitl [Hbar]; · iexact Hbar
  isplitl [HO]; · iexact HO
  isplitl [Hx]; · iexact Hx
  isplitl [Hr]; · iexact Hr
  isplitl [Hg]; · iexact Hg
  iapply (Entails.of_eq (out_split c (outF m)).symm)
  isplitl [Hown HB]
  · iapply (Entails.of_eq (own_join m c)); isplitl [Hown] <;> iassumption
  iexact HW

end

end Cert.AllReduce

end
-- ==== Proof.Deal.lean ====
/-
# `Deal`: what the launch deals to each device

The rounds' positions and duty tokens, the tokens carried from the device whose semaphore they belong to over to the
device that pays them, and the credit of every arrival.
-/
module

public import proofs.«01_k».proof.Proof.Exit

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Families -/

omit [FloatOps F] in
theorem bigSep_opt (Φ : Option (Fin 120) → sProp 𝕄) : bigSep Finset.univ Φ = iprop(Φ none ∗ bigSep Finset.univ fun i : Fin 120 => Φ (some i)) := by
  rw [show (Finset.univ : Finset (Option (Fin 120))) = insert none (Finset.univ.map Function.Embedding.some) from by
      ext a; cases a <;> simp, bigSep_insert (by simp), bigSep_map]
  rfl
omit [FloatOps F] in
/-- A family over the ordered pairs of distinct devices, read from either end. -/
theorem around (Φ : Dev nD → Dev nD → sProp 𝕄) :
    (bigSep Finset.univ fun c : Dev nD => bigSep Finset.univ fun k : Fin 7 => Φ c (nb c k))
      = bigSep Finset.univ fun c : Dev nD => bigSep Finset.univ fun k : Fin 7 => Φ (nb c k) c := by
  rw [bigSep_congr fun (c : Dev nD) _ => (peers_erase c (Φ c)).symm, bigSep_erase_comm]
  exact bigSep_congr fun c _ => peers_erase c fun a => Φ a c
omit [FloatOps F] in
theorem around7 (Φ : Dev nD → Dev nD → sProp 𝕄) :
    (bigSep Finset.univ fun c : Dev nD => bigSep (Finset.Ico 0 7) fun j => Φ c (nb c (kOf j)))
      = bigSep Finset.univ fun c : Dev nD => bigSep (Finset.Ico 0 7) fun j => Φ (nb c (kOf j)) c := by
  rw [bigSep_congr fun (c : Dev nD) _ => steps7 fun k => Φ c (nb c k), bigSep_congr fun (c : Dev nD) _ => steps7 fun k => Φ (nb c k) c]
  exact around Φ
omit [FloatOps F] in
theorem around28 (Φ : Fin 4 → Dev nD → Dev nD → sProp 𝕄) :
    (bigSep Finset.univ fun c : Dev nD => bigSep (Finset.Ico 0 28) fun j => Φ (wOf j) c (nb c (kOf j)))
      = bigSep Finset.univ fun c : Dev nD => bigSep (Finset.Ico 0 28) fun j => Φ (wOf j) (nb c (kOf j)) c := by
  rw [bigSep_congr fun (c : Dev nD) _ => steps28 fun w k => Φ w c (nb c k), bigSep_congr fun (c : Dev nD) _ => steps28 fun w k => Φ w (nb c k) c]
  exact around fun a b => bigSep Finset.univ fun w : Fin 4 => Φ w a b

omit [FloatOps F] in
theorem both {P Q P' Q' : sProp 𝕄} (h : P ⊢ P') (h' : Q ⊢ Q') : iprop(P ∗ Q) ⊢ iprop(P' ∗ Q') := BI.sep_mono h h'
omit [FloatOps F] in
theorem second {P Q Q' : sProp 𝕄} (h : Q ⊢ Q') : iprop(P ∗ Q) ⊢ Q' := by
  iintro ⟨-, H⟩; iapply h; iexact H

/-! ## The element the exchanges start from -/

theorem csem_injective : Function.Injective csem := by
  intro a b h
  cases a with
  | none => cases b with
    | none => rfl
    | some j => exact nomatch h
  | some i => cases b with
    | none => exact nomatch h
    | some j =>
      have : 4 + i.val = 4 + j.val := congrArg Fin.val (SemLoc.dma.inj h)
      exact congrArg some (Fin.ext (by omega))
theorem kcell_injective : Function.Injective (kcell : Dev nD × Option (Fin 120) → GSem nD τ sig) := fun a b h =>
  Prod.ext (congrArg (fun g : GSem nD τ sig => g.1.1) h) (csem_injective (congrArg Prod.snd h))
def exCells : Finset (GSem nD τ sig) := Finset.univ.map ⟨kcell, kcell_injective⟩
/-- A token for every device at every semaphore; those of nobody's duty are dropped. -/
def exTok (p : (Dev nD × Option (Fin 120)) × Dev nD) : GSem nD τ sig × ℕ × Dev nD := (kcell p.1, 0, p.2)
theorem exTok_injective : Function.Injective exTok := fun a b h =>
  Prod.ext (kcell_injective (congrArg Prod.fst h)) (congrArg (fun x => x.2.2) h)
def exToks : Finset (GSem nD τ sig × ℕ × Dev nD) := Finset.univ.map ⟨exTok, exTok_injective⟩

def u₀ : UU :=
  (initOf (Pipeline.cells cfgs cellOf_inj) (Pipeline.launchToks cfgs cellOf_inj), initOf exCells exToks)

section
variable (c : Dev nD)

/-- The tokens of device `c`'s own semaphores, -/
def toks : sProp 𝕄 :=
  bigSep Finset.univ fun ck : Option (Fin 120) => bigSep Finset.univ fun d : Dev nD => dutyTok ER (kcell (c, ck)) 0 d
/-- those of them that stand for a duty, -/
def ownToks : sProp 𝕄 :=
  iprop((bigSep (Finset.Ico 0 7) fun j => dutyTok ER (barCell c) 0 (nb c (kOf j)))
    ∗ (bigSep (Finset.Ico 0 28) fun j => dutyTok ER (dCell c (sS (wOf j) (kOf j))) 0 c)
    ∗ (bigSep (Finset.Ico 0 28) fun j => dutyTok ER (dCell c (rS (wOf j) (nb c (kOf j)))) 0 (nb c (kOf j)))
    ∗ (bigSep (Finset.Ico 0 28) fun j => dutyTok ER (dCell c (bS (wOf j) (kOf j))) 0 c)
    ∗ (bigSep (Finset.Ico 0 28) fun j => dutyTok ER (dCell c (vS (wOf j) (nb c (kOf j)))) 0 (nb c (kOf j))))
/-- and those of the duties it pays. -/
def payToks : sProp 𝕄 :=
  iprop((bigSep (Finset.Ico 0 7) fun j => dutyTok ER (barCell (nb c (kOf j))) 0 c)
    ∗ (bigSep (Finset.Ico 0 28) fun j => dutyTok ER (dCell c (sS (wOf j) (kOf j))) 0 c)
    ∗ (bigSep (Finset.Ico 0 28) fun j => dutyTok ER (dCell (nb c (kOf j)) (rS (wOf j) c)) 0 c)
    ∗ (bigSep (Finset.Ico 0 28) fun j => dutyTok ER (dCell c (bS (wOf j) (kOf j))) 0 c)
    ∗ (bigSep (Finset.Ico 0 28) fun j => dutyTok ER (dCell (nb c (kOf j)) (vS (wOf j) c)) 0 c))

omit [FloatOps F] in
/-- One token of a semaphore's. -/
theorem tok_at (q : DmaSem sig) (d : Dev nD) :
    (bigSep Finset.univ fun d : Dev nD => (dutyTok ER (dCell c q) 0 d : sProp 𝕄)) ⊢ dutyTok ER (dCell c q) 0 d := bigSep_elim (Finset.mem_univ d)
omit [FloatOps F] in
theorem toks_own : toks c ⊢ (ownToks c : sProp 𝕄) := by
  unfold toks ownToks
  rw [bigSep_opt, steps7 fun k => (dutyTok ER (barCell c) 0 (nb c k) : sProp 𝕄)]
  refine both ((Entails.of_eq (peers c fun d => (dutyTok ER (barCell c) 0 d : sProp 𝕄))).trans (second (Entails.of_eq rfl))) ?_
  refine (Entails.of_eq (sems_split c fun q => bigSep Finset.univ fun d : Dev nD => (dutyTok ER (dCell c q) 0 d : sProp 𝕄))).trans ?_
  refine both (bigSep_mono fun j _ => tok_at c _ c) (both (second (bigSep_mono fun j _ => tok_at c _ _))
    (both (bigSep_mono fun j _ => tok_at c _ c) (second (bigSep_mono fun j _ => tok_at c _ _))))
end

omit [FloatOps F] in
/-- The tokens, dealt from those whose semaphores they are of to those who pay. -/
theorem toks_around : (bigSep Finset.univ fun c : Dev nD => (toks c : sProp 𝕄)) ⊢ bigSep Finset.univ fun c : Dev nD => payToks c := by
  refine BI.Entails.trans (bigSep_mono fun c _ => toks_own c) (Entails.of_eq (?_ :
    (bigSep Finset.univ fun c : Dev nD => (ownToks c : sProp 𝕄)) = bigSep Finset.univ fun c : Dev nD => payToks c))
  unfold ownToks payToks
  simp only [bigSep_sep']
  rw [around7 fun a b => (dutyTok ER (barCell a) 0 b : sProp 𝕄), around28 fun w a b => (dutyTok ER (dCell a (rS w b)) 0 b : sProp 𝕄),
    around28 fun w a b => (dutyTok ER (dCell a (vS w b)) 0 b : sProp 𝕄)]

/-- What the starting element deals to device `c`. -/
def G (c : Dev nD) : sProp 𝕄 :=
  iprop((bigSep Finset.univ fun ck : Option (Fin 120) => roundState ER (Rd m) (kcell (c, ck)) 0)
    ∗ (bigSep Finset.univ fun ck : Option (Fin 120) => iprop(atPos ER (kcell (c, ck)) 0 ∅ 0 ∗ reached ER (kcell (c, ck)) 0)) ∗ toks c)

/-- What all devices know, -/
def knowns : sProp 𝕄 := bigSep Finset.univ fun ck : Dev nD × Option (Fin 120) => known m (kcell ck)
instance knowns_persistent : BI.Persistent (knowns m) := by unfold knowns; infer_instance
/-- and what stays with one. -/
def linear (c : Dev nD) : sProp 𝕄 :=
  iprop((bigSep Finset.univ fun ck : Option (Fin 120) => atPos ER (kcell (c, ck)) 0 ∅ 0) ∗ payToks c)
def G' (c : Dev nD) : sProp 𝕄 := iprop(knowns m ∗ linear c)

theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun ck : Option (Fin 120) => Φ (kcell (c, ck)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod, bigSep_univ_prod]; rfl
  iintro HX
  imod (Rounds.fund ER (Rd m) exCells exToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
/-- The counters of device `c`, all at zero, as the launch names them. -/
theorem sems0_eq (c : Dev nD) :
    iprop(Pipeline.ownSems0 (Ix := Unit) (Name := ℕ) (U := UU) (Lvl := ℕ) (Val := Elt F) (τ := τ) osem c ∗ unscopedSems0 c)
      = iprop((bigSep Finset.univ fun i : Fin 120 => semVal (dCell c (qsem i)) 0) ∗ semVal (barCell c) 0 : sProp 𝕄) := by
  rw [unscopedSems0_eq]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun ck => iprop(∃ κ : ℕ, cellInv ER (Rd m) κ (kcell (c, ck))))
          ∗ (bigSep Finset.univ fun ck => iprop(atPos ER (kcell (c, ck)) 0 ∅ 0 ∗ reached ER (kcell (c, ck)) 0)) ∗ toks c) := by
  unfold G
  iintro ⟨Hos, Hus, Hst, Hat, Htok⟩
  ihave Hv := (Entails.of_eq (sems0_eq (F := F) c)) $$ [Hos Hus]
  · isplitl [Hos] <;> iassumption
  icases Hv with ⟨Hd, Hb⟩
  imod (show iprop((bigSep Finset.univ fun ck : Option (Fin 120) => semVal (kcell (c, ck)) 0) ∗ bigSep Finset.univ fun ck : Option (Fin 120) => roundState ER (Rd m) (kcell (c, ck)) 0)
      ⊢ (|={Set.univ}=> bigSep Finset.univ fun ck => iprop(∃ κ : ℕ, cellInv ER (Rd m) κ (kcell (c, ck))) : sProp 𝕄) from by
        rw [← bigSep_sep']
        exact (bigSep_mono fun ck _ => (Rounds.body_intro ER (Rd m) (kcell (c, ck))).trans inv_alloc).trans (bigSep_fupd _ _)) $$ [Hd Hb Hst] with Hinv
  · isplitl [Hd Hb]
    · iapply (Entails.of_eq (bigSep_opt fun ck => (semVal (kcell (c, ck)) 0 : sProp 𝕄)).symm)
      isplitl [Hb]; · iexact Hb
      iexact Hd
    iexact Hst
  imodintro
  isplitl [Hinv]; · iexact Hinv
  isplitl [Hat] <;> iassumption

theorem regroup :
    (bigSep Finset.univ fun c : Dev nD => iprop((bigSep Finset.univ fun ck => iprop(∃ κ : ℕ, cellInv ER (Rd m) κ (kcell (c, ck))))
          ∗ (bigSep Finset.univ fun ck => iprop(atPos ER (kcell (c, ck)) 0 ∅ 0 ∗ reached ER (kcell (c, ck)) 0)) ∗ toks c) : sProp 𝕄)
      ⊢ bigSep Finset.univ (G' m) := by
  have hk : knowns m = iprop((bigSep Finset.univ fun c : Dev nD => bigSep Finset.univ fun ck => iprop(∃ κ : ℕ, cellInv ER (Rd m) κ (kcell (c, ck))))
      ∗ bigSep Finset.univ fun c : Dev nD => bigSep Finset.univ fun ck => reached ER (kcell (c, ck)) 0) := by
    unfold knowns known; rw [bigSep_sep', bigSep_univ_prod, bigSep_univ_prod]
  simp only [bigSep_sep']
  iintro ⟨HI, ⟨Hat, HR⟩, Htok⟩
  ihave Htk := (toks_around (F := F)) $$ Htok
  ihave #HK := (Entails.of_eq hk.symm) $$ [HI HR]
  · isplitl [HI] <;> iassumption
  unfold G' linear
  simp only [bigSep_sep']
  isplitr
  · iapply (BI.bigSep_of_persistent Finset.univ (knowns m)); iexact HK
  isplitl [Hat] <;> iassumption

/-- The semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit of what all devices owe -/

omit [FloatOps F] in
theorem tally_sum {I : Finset ℕ} {cell : ℕ → GSem nD τ sig} {n : ℕ} {g : GSem nD τ sig} (P : ℕ → Prop) [DecidablePred P] (h : ∀ j, Iff (g = cell j) (P j)) :
    (∑ j ∈ I, (tallyAt (cell j) () n : CellTallies nD τ sig Unit)) g () = ∑ j ∈ I, if P j then n else 0 := by
  rw [Finset.sum_apply, Finsupp.finset_sum_apply]
  refine Finset.sum_congr rfl fun j _ => ?_
  rw [tallyAt_apply]
  by_cases hp : P j
  · rw [if_pos hp, if_pos ⟨(h j).mpr hp, rfl⟩]
  · rw [if_neg hp, if_neg fun h' => hp ((h j).mp h'.1)]
omit [FloatOps F] in
theorem tally_none {I : Finset ℕ} {cell : ℕ → GSem nD τ sig} {n : ℕ} {g : GSem nD τ sig} (h : ∀ j, g ≠ cell j) :
    (∑ j ∈ I, (tallyAt (cell j) () n : CellTallies nD τ sig Unit)) g () = 0 := by
  rw [tally_sum (fun _ => False) fun j => ⟨h j, False.elim⟩]; simp

theorem bar_eq_iff {a b : Dev nD} : Iff (barCell a = barCell b) (a = b) := ⟨fun h => congrArg (fun g : GSem nD τ sig => g.1.1) h, fun h => h ▸ rfl⟩
theorem r_eq_iff {a b : Dev nD} {w w' : Fin 4} {s s' : Dev nD} : Iff (dCell a (rS w s) = dCell b (rS w' s')) (a = b ∧ w = w' ∧ s = s') := by
  refine ⟨fun h => ?_, fun ⟨h1, h2, h3⟩ => by rw [h1, h2, h3]⟩
  have e : 32 + (8 * w.val + s.val) = 32 + (8 * w'.val + s'.val) := congrArg Fin.val (SemLoc.dma.inj (congrArg Prod.snd h))
  have := dev_lt s; have := dev_lt s'
  exact ⟨congrArg (fun g : GSem nD τ sig => g.1.1) h, Fin.ext (by omega), Fin.ext (by omega)⟩
theorem v_eq_iff {a b : Dev nD} {w w' : Fin 4} {s s' : Dev nD} : Iff (dCell a (vS w s) = dCell b (vS w' s')) (a = b ∧ w = w' ∧ s = s') := by
  refine ⟨fun h => ?_, fun ⟨h1, h2, h3⟩ => by rw [h1, h2, h3]⟩
  have e : 92 + (8 * w.val + s.val) = 92 + (8 * w'.val + s'.val) := congrArg Fin.val (SemLoc.dma.inj (congrArg Prod.snd h))
  have := dev_lt s; have := dev_lt s'
  exact ⟨congrArg (fun g : GSem nD τ sig => g.1.1) h, Fin.ext (by omega), Fin.ext (by omega)⟩
theorem r_ne_v {a b : Dev nD} {w w' : Fin 4} {s s' : Dev nD} : dCell a (rS w s) ≠ dCell b (vS w' s') := by
  intro h
  have e : 32 + (8 * w.val + s.val) = 92 + (8 * w'.val + s'.val) := congrArg Fin.val (SemLoc.dma.inj (congrArg Prod.snd h))
  have := dev_lt s
  omega
theorem bar_ne_d {a b : Dev nD} {q : DmaSem sig} : barCell a ≠ dCell b q := fun h => nomatch congrArg Prod.snd h

theorem owed_bar (d c : Dev nD) : O₀ d (barCell c) () = ∑ j ∈ Finset.Ico 0 7, if c = nb d (kOf j) then 1 else 0 := by
  unfold O₀ orcv obrc obar
  rw [Pi.add_apply, Finsupp.add_apply, Pi.add_apply, Finsupp.add_apply, tally_none fun j => bar_ne_d, tally_none fun j => bar_ne_d,
    tally_sum (fun j => c = nb d (kOf j)) fun j => bar_eq_iff, Nat.zero_add]
theorem owed_r (d c : Dev nD) (w : Fin 4) (s : Dev nD) :
    O₀ d (dCell c (rS w s)) () = ∑ j ∈ Finset.Ico 0 28, if c = nb d (kOf j) ∧ w = wOf j ∧ s = d then N else 0 := by
  unfold O₀ orcv obrc obar
  rw [Pi.add_apply, Finsupp.add_apply, Pi.add_apply, Finsupp.add_apply, tally_sum (fun j => c = nb d (kOf j) ∧ w = wOf j ∧ s = d) fun j => r_eq_iff,
    tally_none fun j => r_ne_v, tally_none fun j => bar_ne_d.symm, Nat.add_zero]
theorem owed_v (d c : Dev nD) (w : Fin 4) (s : Dev nD) :
    O₀ d (dCell c (vS w s)) () = ∑ j ∈ Finset.Ico 0 28, if c = nb d (kOf j) ∧ w = wOf j ∧ s = d then N else 0 := by
  unfold O₀ orcv obrc obar
  rw [Pi.add_apply, Finsupp.add_apply, Pi.add_apply, Finsupp.add_apply, tally_none fun j => r_ne_v.symm,
    tally_sum (fun j => c = nb d (kOf j) ∧ w = wOf j ∧ s = d) fun j => v_eq_iff, tally_none fun j => bar_ne_d.symm, Nat.zero_add, Nat.add_zero]

theorem count_bar : ∀ c : Dev nD, (∑ d : Dev nD, ∑ j ∈ Finset.Ico 0 7, if c = nb d (kOf j) then 1 else 0) = 7 := by decide +kernel
theorem count_step : ∀ (c : Dev nD) (w : Fin 4) (s : Dev nD), s ≠ c →
    (∑ d : Dev nD, ∑ j ∈ Finset.Ico 0 28, if c = nb d (kOf j) ∧ w = wOf j ∧ s = d then 1 else 0) = 1 := by decide +kernel
/-- Each arrival from a peer is owed once. -/
theorem count_N (c : Dev nD) (w : Fin 4) (s : Dev nD) (h : s ≠ c) :
    (∑ d : Dev nD, ∑ j ∈ Finset.Ico 0 28, if c = nb d (kOf j) ∧ w = wOf j ∧ s = d then N else 0) = N := by
  have e := congrArg (· * N) (count_step c w s h)
  simpa only [Finset.sum_mul, ite_mul, one_mul, zero_mul] using e

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, count_bar]
theorem launch_r (c : Dev nD) (w : Fin 4) (s : Dev nD) (h : s ≠ c) :
    tallyOn (dCell c (rS w s)) (launchCredit (Pipeline.owing O₀) 0 (dCell c (rS w s))) = (tallyAt (dCell c (rS w s)) () N : CellTallies nD τ sig Unit) := by
  unfold tallyAt; refine congrArg _ (Finsupp.ext fun u => ?_); cases u
  rw [Pipeline.launchCredit_owing, Finsupp.single_eq_same, Finset.sum_congr rfl fun d _ => owed_r d c w s, count_N c w s h]
theorem launch_v (c : Dev nD) (w : Fin 4) (s : Dev nD) (h : s ≠ c) :
    tallyOn (dCell c (vS w s)) (launchCredit (Pipeline.owing O₀) 0 (dCell c (vS w s))) = (tallyAt (dCell c (vS w s)) () N : CellTallies nD τ sig Unit) := by
  unfold tallyAt; refine congrArg _ (Finsupp.ext fun u => ?_); cases u
  rw [Pipeline.launchCredit_owing, Finsupp.single_eq_same, Finset.sum_congr rfl fun d _ => owed_v d c w s, count_N c w s h]

/-- The credit device `c` waits with. -/
def credits (c : Dev nD) : sProp 𝕄 :=
  iprop(cred (tallyAt (barCell c) () 7) ∗ (bigSep (Finset.Ico 0 28) fun j => cred (tallyAt (dCell c (rS (wOf j) (nb c (kOf j)))) () N))
    ∗ bigSep (Finset.Ico 0 28) fun j => cred (tallyAt (dCell c (vS (wOf j) (nb c (kOf j)))) () N))
omit [FloatOps F] in
theorem creds (c : Dev nD) : (Pipeline.launchCred O₀ c : sProp 𝕄) ⊢ credits c := by
  unfold Pipeline.launchCred credits
  refine (bigSep_along (fun ck : Option (Fin 120) => some (csem ck)) (fun j j' i h h' => csem_injective (Option.some.inj (h.trans h'.symm))) _).trans ?_
  refine (Entails.of_eq (bigSep_opt _)).trans (both (Entails.of_eq (congrArg cred (launch_bar c))) ?_)
  refine (Entails.of_eq (sems_split c fun q => cred (tallyOn (dCell c q) (launchCredit (Pipeline.owing O₀) 0 (dCell c q))))).trans ?_
  exact second (both (second (Entails.of_eq (bigSep_congr fun j _ => congrArg cred (launch_r c _ _ (nb_ne c (kOf j))))))
    (second (second (Entails.of_eq (bigSep_congr fun j _ => congrArg cred (launch_v c _ _ (nb_ne c (kOf j))))))))

end Cert.AllReduce

end
-- ==== Proof.Run.lean ====
/-
# `Run`: the body, effect by effect

One rule of `Steps` per effect, in the program's order; what remains of each is that the addresses and semaphores the
kernel computes are the ones of the step the rule is at.
-/
module

public import proofs.«01_k».proof.Proof.Body

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What the kernel computes at a step -/

theorem dev_ok (c : Dev nD) (j : ℕ) {x : ℕ} {hx : x < nD} (h : x = devAt c (BitVec.ofNat 32 (1 + (kOf j).val))) : (⟨x, hx⟩ : Dev nD) = nb c (kOf j) :=
  Fin.ext (h.trans (dev_at c (kOf j)))
theorem off1_ok (c : Dev nD) (j : ℕ) {off : Fin 1 → ℕ} (h : off = k0_off1 c (BitVec.ofNat 32 (8 * (wOf j).val))) : off = ![8 * (wOf j).val + c.val] :=
  h.trans (off1_at c _)
theorem off2_ok (c : Dev nD) (j : ℕ) {off : Fin 3 → ℕ} (h : off = k0_off2 c (BitVec.ofNat 32 (8 * (wOf j).val))) : off = ![8 * (wOf j).val + c.val, 0, 0] :=
  h.trans (off2_at c _)
theorem off3_ok (c : Dev nD) (j : ℕ) {off : Fin 2 → ℕ} (h : off = k0_off3 c (BitVec.ofNat 32 (1 + (kOf j).val)) (BitVec.ofNat 32 (32 * (wOf j).val))) :
    off = ![128 * (nb c (kOf j)).val + 32 * (wOf j).val, 0] := h.trans (off3_at c _ _)
theorem off4_ok (c : Dev nD) (w : Fin 4) {off : Fin 3 → ℕ} (h : off = k0_off4 c (BitVec.ofNat 32 (32 * w.val))) : off = ![0, 128 * c.val + 32 * w.val, 0] :=
  h.trans (off4_at c _)
theorem off5_ok (c : Dev nD) (w : Fin 4) {off : Fin 2 → ℕ} (h : off = k0_off5 c (BitVec.ofNat 32 (32 * w.val))) : off = ![128 * c.val + 32 * w.val, 0] :=
  h.trans (off5_at c _)
theorem off6_ok (c : Dev nD) (j : ℕ) {off : Fin 1 → ℕ} (h : off = k0_off6 c (BitVec.ofNat 32 (8 * (wOf j).val)) (BitVec.ofNat 32 (1 + (kOf j).val))) :
    off = ![8 * (wOf j).val + (nb c (kOf j)).val] := h.trans (off6_at c _ _)
theorem off8_ok (c : Dev nD) (j : ℕ) {off : Fin 3 → ℕ} (h : off = k0_off8 c (BitVec.ofNat 32 (8 * (wOf j).val)) (BitVec.ofNat 32 (1 + (kOf j).val))) :
    off = ![8 * (wOf j).val + (nb c (kOf j)).val, 0, 0] := h.trans (off8_at c _ _)
theorem off9_ok (c : Dev nD) (j : ℕ) {off : Fin 2 → ℕ} (h : off = k0_off9 c (BitVec.ofNat 32 (32 * (wOf j).val))) : off = ![128 * c.val + 32 * (wOf j).val, 0] :=
  h.trans (off9_at c _)

variable (c : Dev nD)

set_option maxHeartbeats 2000000 in
set_option maxRecDepth 100000 in
/-- The body, from before the handshake to after the last wait. -/
theorem run_body (Q : PUnit → sProp (MT nD τ sig Unit (Elt F) ℕ UU ℕ)) (hend : Mid m c (Rest m c) 28 28 28 4 28 28 28 ⊢ iprop(|={Set.univ}=> Q ⟨⟩)) :
    Pre m c 0 ⊢ wp frame (wpE (defs₀ (F := F)) 𝒱₀ (c : Thread nD τ) none) Set.univ
    (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
      (Memref.whole cc0_scratch0) (Memref.isWhole_whole _) (Memref.whole cc0_scratch1) (Memref.isWhole_whole _) cc0_scratch2 cc0_scratch3 cc0_scratch4 cc0_scratch5) Q := by
  rw [cc0_body_eq_skeleton]
  unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton, k0_part22_eq_skeleton, k0_part23_eq_skeleton, k0_part24_eq_skeleton,
    k0_part25_eq_skeleton, k0_part26_eq_skeleton, k0_part27_eq_skeleton, k0_part28_eq_skeleton, k0_part29_eq_skeleton, k0_part30_eq_skeleton,
    k0_part31_eq_skeleton, k0_part32_eq_skeleton, k0_part33_eq_skeleton, k0_part34_eq_skeleton, k0_part35_eq_skeleton, k0_part36_eq_skeleton,
    k0_part37_eq_skeleton, k0_part38_eq_skeleton, k0_part39_eq_skeleton, k0_part40_eq_skeleton, k0_part41_eq_skeleton, k0_part42_eq_skeleton,
    k0_part43_eq_skeleton, k0_part44_eq_skeleton, k0_part45_eq_skeleton, k0_part46_eq_skeleton, k0_part47_eq_skeleton, k0_part48_eq_skeleton,
    k0_part49_eq_skeleton, k0_part50_eq_skeleton, k0_part51_eq_skeleton, k0_part52_eq_skeleton, k0_part53_eq_skeleton, k0_part54_eq_skeleton,
    k0_part55_eq_skeleton, k0_part56_eq_skeleton, k0_part57_eq_skeleton, k0_part58_eq_skeleton, k0_part59_eq_skeleton, k0_part60_eq_skeleton,
    k0_part61_eq_skeleton, k0_part62_eq_skeleton, k0_part63_eq_skeleton, k0_part64_eq_skeleton, k0_part65_eq_skeleton, k0_part66_eq_skeleton,
    k0_part67_eq_skeleton, k0_part68_eq_skeleton, k0_part69_eq_skeleton, k0_part70_eq_skeleton, k0_part71_eq_skeleton, k0_part72_eq_skeleton,
    k0_part73_eq_skeleton, k0_part74_eq_skeleton, k0_part75_eq_skeleton, k0_part76_eq_skeleton, k0_part77_eq_skeleton, k0_part78_eq_skeleton,
    k0_part79_eq_skeleton, k0_part80_eq_skeleton, k0_part81_eq_skeleton, k0_part82_eq_skeleton, k0_part83_eq_skeleton, k0_part84_eq_skeleton,
    k0_part85_eq_skeleton, k0_part86_eq_skeleton, k0_part87_eq_skeleton, k0_part88_eq_skeleton, k0_part89_eq_skeleton, k0_part90_eq_skeleton]
  unfold k0_part90_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton, k0_part22_eq_skeleton, k0_part23_eq_skeleton, k0_part24_eq_skeleton,
    k0_part25_eq_skeleton, k0_part26_eq_skeleton, k0_part27_eq_skeleton, k0_part28_eq_skeleton, k0_part29_eq_skeleton, k0_part30_eq_skeleton,
    k0_part31_eq_skeleton, k0_part32_eq_skeleton, k0_part33_eq_skeleton, k0_part34_eq_skeleton, k0_part35_eq_skeleton, k0_part36_eq_skeleton,
    k0_part37_eq_skeleton, k0_part38_eq_skeleton, k0_part39_eq_skeleton, k0_part40_eq_skeleton, k0_part41_eq_skeleton, k0_part42_eq_skeleton,
    k0_part43_eq_skeleton, k0_part44_eq_skeleton, k0_part45_eq_skeleton, k0_part46_eq_skeleton, k0_part47_eq_skeleton, k0_part48_eq_skeleton,
    k0_part49_eq_skeleton, k0_part50_eq_skeleton, k0_part51_eq_skeleton, k0_part52_eq_skeleton, k0_part53_eq_skeleton, k0_part54_eq_skeleton,
    k0_part55_eq_skeleton, k0_part56_eq_skeleton, k0_part57_eq_skeleton, k0_part58_eq_skeleton, k0_part59_eq_skeleton, k0_part60_eq_skeleton,
    k0_part61_eq_skeleton, k0_part62_eq_skeleton, k0_part63_eq_skeleton, k0_part64_eq_skeleton, k0_part65_eq_skeleton, k0_part66_eq_skeleton,
    k0_part67_eq_skeleton, k0_part68_eq_skeleton, k0_part69_eq_skeleton, k0_part70_eq_skeleton, k0_part71_eq_skeleton, k0_part72_eq_skeleton,
    k0_part73_eq_skeleton, k0_part74_eq_skeleton, k0_part75_eq_skeleton, k0_part76_eq_skeleton, k0_part77_eq_skeleton, k0_part78_eq_skeleton,
    k0_part79_eq_skeleton, k0_part80_eq_skeleton, k0_part81_eq_skeleton, k0_part82_eq_skeleton, k0_part83_eq_skeleton, k0_part84_eq_skeleton,
    k0_part85_eq_skeleton, k0_part86_eq_skeleton, k0_part87_eq_skeleton, k0_part88_eq_skeleton, k0_part89_eq_skeleton, k0_part90_eq_skeleton]
  unfold k0_part1_skel k0_part2_skel k0_part3_skel k0_part4_skel k0_part5_skel k0_part6_skel k0_part7_skel k0_part8_skel k0_part9_skel k0_part10_skel
    k0_part11_skel k0_part12_skel k0_part13_skel k0_part14_skel k0_part15_skel k0_part16_skel k0_part17_skel k0_part18_skel k0_part19_skel k0_part20_skel
    k0_part21_skel k0_part22_skel k0_part23_skel k0_part24_skel k0_part25_skel k0_part26_skel k0_part27_skel k0_part28_skel k0_part29_skel k0_part30_skel
    k0_part31_skel k0_part32_skel k0_part33_skel k0_part34_skel k0_part35_skel k0_part36_skel k0_part37_skel k0_part38_skel k0_part39_skel k0_part40_skel
    k0_part41_skel k0_part42_skel k0_part43_skel k0_part44_skel k0_part45_skel k0_part46_skel k0_part47_skel k0_part48_skel k0_part49_skel k0_part50_skel
    k0_part51_skel k0_part52_skel k0_part53_skel k0_part54_skel k0_part55_skel k0_part56_skel k0_part57_skel k0_part58_skel k0_part59_skel k0_part60_skel
    k0_part61_skel k0_part62_skel k0_part63_skel k0_part64_skel k0_part65_skel k0_part66_skel k0_part67_skel k0_part68_skel k0_part69_skel k0_part70_skel
    k0_part71_skel k0_part72_skel k0_part73_skel k0_part74_skel k0_part75_skel k0_part76_skel k0_part77_skel k0_part78_skel k0_part79_skel k0_part80_skel
    k0_part81_skel k0_part82_skel k0_part83_skel k0_part84_skel k0_part85_skel k0_part86_skel k0_part87_skel k0_part88_skel k0_part89_skel
  simp only [Prog.lift, Prog.bind_op, Prog.bind_ret, Prog.pure_eq_ret, semSignalWord, semWaitWord, wp_deviceId]
  refine step_signal m c (by decide) (dev_bar c).1 ?_
  refine step_signal m c (by decide) (dev_bar c).2.1 ?_
  refine step_signal m c (by decide) (dev_bar c).2.2.1 ?_
  refine step_signal m c (by decide) (dev_bar c).2.2.2.1 ?_
  refine step_signal m c (by decide) (dev_bar c).2.2.2.2.1 ?_
  refine step_signal m c (by decide) (dev_bar c).2.2.2.2.2.1 ?_
  refine step_signal m c (by decide) (dev_bar c).2.2.2.2.2.2 ?_
  refine step_meet m c ?_
  refine step_load0 m c ?_
  refine step_load1 m c fun _ => ?_
  refine step_store0 m c ?_
  iterate 28
    refine step_send m c ?_ (dev_ok c _ ?_) (off2_ok c _ ?_) (off3_ok c _ ?_) (sS_eq ?_ _ _) (rS_eq (off1_ok c _ ?_) _ _) ?_
    · decide
    · rfl
    · rfl
    · rfl
    · rfl
    · rfl
  refine step_loadg m c ?_
  iterate 4
    refine step_loadx m c (off4_ok c _ ?_) ?_
    · rfl
    refine step_loadr m c (off5_ok c _ ?_) ?_
    · rfl
    iterate 7
      refine step_recv m c ?_ (rS_eq (off6_ok c _ ?_) _ _) rfl ?_
      · decide
      · rfl
      refine step_loadv m c (off8_ok c _ ?_) ?_
      · rfl
    refine step_loado m c ?_ (off5_ok c _ ?_) fun _ => ?_
    · decide
    · rfl
    refine step_store m c ?_ (off5_ok c _ ?_) ?_ ?_ ?_
    · decide
    · rfl
    · rfl
    · rfl
    iterate 7
      refine step_bsend m c ?_ ?_ (dev_ok c _ ?_) (off9_ok c _ ?_) (bS_eq ?_ _ _) (vS_eq (off1_ok c _ ?_) _ _) ?_
      · decide
      · decide
      · rfl
      · rfl
      · rfl
      · rfl
  iterate 28
    refine step_brecv m c ?_ (vS_eq (off6_ok c _ ?_) _ _) rfl ?_
    · decide
    · rfl
  iterate 28
    refine step_swait m c ?_ (sS_eq ?_ _ _) rfl ?_
    · decide
    · rfl
  iterate 28
    refine step_bwait m c ?_ (bS_eq ?_ _ _) rfl ?_
    · decide
    · rfl
  rw [wp_ret]
  exact hend

end Cert.AllReduce

end
-- ==== Proof.Launch.lean ====
/-
# `Launch`: the whole run

The body between the pipeline's fetches and its write-back, and the launch of the eight devices.
-/
module

public import proofs.«01_k».proof.Proof.Deal
public import proofs.«01_k».proof.Proof.Run
public import proofs.«01_k».proof.Proof.Gen.KernelIdeal.Points
public import Idealize.ShloMosaic.Lib.Pipeline.Kit
public import Idealize.ShloMosaic.Lib.Pipeline.CollectiveSegs

@[expose] public section

noncomputable section

namespace Cert.AllReduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The state a launch starts from. -/
def s₀ : MemSt nD τ sig (Elt F) := ⟨m, fun _ => 0, ρ⟩

/-! ## The body's two ends, for the pipeline -/

def start (c : Dev nD) : sProp 𝕄 := iprop(records m ∗ linear c ∗ credits c)
def scratches (c : Dev nD) : sProp 𝕄 :=
  iprop((∃ f, xbM.view.loc (c : Thread nD τ) ↦{fullShare} f) ∗ (∃ f, vM.view.loc (c : Thread nD τ) ↦{fullShare} f))
def Φ₀ (c : Dev nD) : sProp 𝕄 := iprop(start m c ∗ scratches (F := F) c)
def Φ₁ (c : Dev nD) : sProp 𝕄 :=
  iprop(scratches (F := F) c ∗ (bigSep Finset.univ fun i : Fin 120 => semVal (dCell c (qsem i)) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m c
    | ⟨1, _⟩ => rin m c
    | ⟨2, _⟩ => gin m c
    | ⟨3, _⟩ => outF m
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

section
variable (c : Dev nD)

theorem empty_ico (n : ℕ) (Φ : ℕ → sProp 𝕄) : bigSep (Finset.Ico n n) Φ = BI.emp := by rw [Finset.Ico_self, bigSep_empty]

theorem each {I : Type} {S : Finset I} {Φ Ψ : I → sProp 𝕄} (h : ∀ i, Φ i ⊢ Ψ i) : bigSep S Φ ⊢ bigSep S Ψ := bigSep_mono fun i _ => h i

/-- What the launch's families are to the body: positions beside the tokens, places beside the signals' tokens. -/
theorem places_to_pay (f1 f2) :
    iprop((bigSep (Finset.Ico 0 28) fun j => slotPts (F := F) c (wOf j) (nb c (kOf j)) f1)
        ∗ bigSep (Finset.Ico 0 28) fun j => outPts (F := F) c (nb c (kOf j)) (wOf j) fullShare f2)
      ⊢ bigSep (Finset.Ico 0 7) fun j => barPay (F := F) (nb c (kOf j)) c := by
  rw [steps7 fun k => barPay (F := F) (nb c k) c, ← bigSep_sep']
  unfold barPay
  rw [← steps28 fun w k => placeOf (F := F) c (nb c k) w]
  refine each fun j => ?_
  unfold placeOf
  iintro ⟨H1, H2⟩
  isplitl [H1]
  · iexists f1; iexact H1
  iexists f2; iexact H2

theorem idle_intro (f) :
    iprop((bigSep Finset.univ fun w : Fin 4 => slotPts (F := F) c w c f)
        ∗ (bigSep Finset.univ fun w : Fin 4 => atPos ER (dCell c (rS w c)) 0 ∅ 0) ∗ bigSep Finset.univ fun w : Fin 4 => atPos ER (dCell c (vS w c)) 0 ∅ 0)
      ⊢ bigSep Finset.univ (Idle (F := F) c) := by
  rw [← bigSep_sep', ← bigSep_sep']
  refine each fun w => ?_
  unfold Idle
  iintro ⟨H1, H2, H3⟩
  isplitl [H1]
  · iexists f; iexact H1
  isplitl [H2] <;> iassumption
theorem own_intro (f) : (bigSep Finset.univ fun w : Fin 4 => outPts (F := F) c c w fullShare f) ⊢ bigSep (Finset.Ico 0 4) (OwnTodo (F := F) c) := by
  rw [← steps4 fun w => outPts (F := F) c c w fullShare f]
  refine each fun j => ?_
  unfold OwnTodo
  iintro H
  iexists f; iexact H
theorem sendTok_intro :
    iprop((bigSep (Finset.Ico 0 28) fun j => dutyTok ER (dCell c (sS (wOf j) (kOf j))) 0 c)
        ∗ (bigSep (Finset.Ico 0 28) fun j => dutyTok ER (dCell (nb c (kOf j)) (rS (wOf j) c)) 0 c)
        ∗ bigSep (Finset.Ico 0 28) fun j => atPos ER (dCell c (sS (wOf j) (kOf j))) 0 ∅ 0)
      = bigSep (Finset.Ico 0 28) (SendTok (F := F) c) := by
  rw [← bigSep_sep', ← bigSep_sep']; rfl
theorem bTok_intro :
    iprop((bigSep (Finset.Ico 0 28) fun j => dutyTok ER (dCell c (bS (wOf j) (kOf j))) 0 c)
        ∗ (bigSep (Finset.Ico 0 28) fun j => dutyTok ER (dCell (nb c (kOf j)) (vS (wOf j) c)) 0 c)
        ∗ bigSep (Finset.Ico 0 28) fun j => atPos ER (dCell c (bS (wOf j) (kOf j))) 0 ∅ 0)
      = bigSep (Finset.Ico 0 28) (BTok (F := F) c) := by
  rw [← bigSep_sep', ← bigSep_sep']; rfl
theorem recvQ_intro :
    iprop((bigSep (Finset.Ico 0 28) fun j => cred (tallyAt (dCell c (rS (wOf j) (nb c (kOf j)))) () N))
        ∗ bigSep (Finset.Ico 0 28) fun j => atPos ER (dCell c (rS (wOf j) (nb c (kOf j)))) 0 ∅ 0)
      = RecvQ m c 0 := by
  unfold RecvQ queue; rw [empty_ico, sep_emp_eq, ← bigSep_sep']; rfl
theorem bRecvQ_intro :
    iprop((bigSep (Finset.Ico 0 28) fun j => cred (tallyAt (dCell c (vS (wOf j) (nb c (kOf j)))) () N))
        ∗ bigSep (Finset.Ico 0 28) fun j => atPos ER (dCell c (vS (wOf j) (nb c (kOf j)))) 0 ∅ 0)
      = BRecvQ m c 0 := by
  unfold BRecvQ queue; rw [empty_ico, sep_emp_eq, ← bigSep_sep']; rfl
theorem sigTodo_intro :
    iprop((bigSep (Finset.Ico 0 7) fun j => dutyTok ER (barCell (nb c (kOf j))) 0 c) ∗ bigSep (Finset.Ico 0 7) fun j => barPay (F := F) (nb c (kOf j)) c)
      = bigSep (Finset.Ico 0 7) (SigTodo (F := F) c) := by
  rw [← bigSep_sep']; rfl

/-- The positions, by what the semaphores are for. -/
theorem pos_split :
    (bigSep Finset.univ fun ck : Option (Fin 120) => (atPos ER (kcell (c, ck)) 0 ∅ 0 : sProp 𝕄))
      = iprop(atPos ER (barCell c) 0 ∅ 0 ∗ (bigSep (Finset.Ico 0 28) fun j => atPos ER (dCell c (sS (wOf j) (kOf j))) 0 ∅ 0)
        ∗ ((bigSep Finset.univ fun w : Fin 4 => atPos ER (dCell c (rS w c)) 0 ∅ 0) ∗ bigSep (Finset.Ico 0 28) fun j => atPos ER (dCell c (rS (wOf j) (nb c (kOf j)))) 0 ∅ 0)
        ∗ (bigSep (Finset.Ico 0 28) fun j => atPos ER (dCell c (bS (wOf j) (kOf j))) 0 ∅ 0)
        ∗ ((bigSep Finset.univ fun w : Fin 4 => atPos ER (dCell c (vS w c)) 0 ∅ 0) ∗ bigSep (Finset.Ico 0 28) fun j => atPos ER (dCell c (vS (wOf j) (nb c (kOf j)))) 0 ∅ 0)) := by
  rw [bigSep_opt, ← sems_split c fun q => (atPos ER (dCell c q) 0 ∅ 0 : sProp 𝕄)]; rfl

/-- The body starts. -/
theorem pre_intro (f) :
    iprop(Φ₀ m c ∗ debt c (O₀ c) ∗ (xM.view.loc (c : Thread nD τ) ↦{fullShare} xin m c) ∗ (rM.view.loc (c : Thread nD τ) ↦{fullShare} rin m c)
        ∗ (gM.view.loc (c : Thread nD τ) ↦{fullShare} gin m c) ∗ (oM.view.loc (c : Thread nD τ) ↦{fullShare} f))
      ⊢ Pre m c 0 := by
  unfold Φ₀ start scratches linear payToks credits
  iintro ⟨⟨⟨#HR, ⟨Hpos, HtB, HtS, HtV, HtS2, HtV2⟩, HcB, HcV, HcV2⟩, Hxb, ⟨%f1, Hv⟩⟩, HO, Hx, Hr, Hg, Ho⟩
  ihave Hpos := (Entails.of_eq (pos_split (F := F) c)) $$ Hpos
  icases Hpos with ⟨HpB, HpS, ⟨HpVi, HpV⟩, HpS2, ⟨HpV2i, HpV2⟩⟩
  ihave Hv := (Entails.of_eq (slots_split (F := F) c f1)) $$ Hv
  icases Hv with ⟨Hvi, Hv⟩
  ihave Ho := (Entails.of_eq (out_split (F := F) c f)) $$ Ho
  icases Ho with ⟨Hoi, Ho⟩
  unfold Pre Keep
  isplitr; · iexact HR
  isplitl [HO]; · unfold O₀; iexact HO
  isplitl [HtB Hv Ho]
  · iapply (Entails.of_eq (sigTodo_intro (F := F) c))
    isplitl [HtB]; · iexact HtB
    iapply (places_to_pay (F := F) c f1 f)
    isplitl [Hv] <;> iassumption
  isplitl [HcB]; · iexact HcB
  isplitl [HpB]; · iexact HpB
  isplitl [HtS HtV HpS]
  · iapply (Entails.of_eq (sendTok_intro (F := F) c))
    isplitl [HtS]; · iexact HtS
    isplitl [HtV] <;> iassumption
  isplitl [HcV HpV]
  · iapply (Entails.of_eq (recvQ_intro m c)); isplitl [HcV] <;> iassumption
  isplitl [HtS2 HtV2 HpS2]
  · iapply (Entails.of_eq (bTok_intro (F := F) c))
    isplitl [HtS2]; · iexact HtS2
    isplitl [HtV2] <;> iassumption
  isplitl [HcV2 HpV2]
  · iapply (Entails.of_eq (bRecvQ_intro m c)); isplitl [HcV2] <;> iassumption
  isplitl [Hoi]; · iapply (own_intro (F := F) c f); iexact Hoi
  isplitl [Hvi HpVi HpV2i]
  · iapply (idle_intro (F := F) c f1)
    isplitl [Hvi]; · iexact Hvi
    isplitl [HpVi] <;> iassumption
  isplitl [Hx]; · iexact Hx
  isplitl [Hr]; · iexact Hr
  isplitl [Hg]; · iexact Hg
  iexact Hxb

abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre : sProp 𝕄 :=
  iprop(Φ₀ m c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))
def bodyPost : sProp 𝕄 :=
  iprop(Φ₁ (F := F) c ∗ (dats m ρ 0 c).owesAt () t0_0.succ ∗ stg c cc0_stg0_0 (xin m c) ∗ stg c cc0_stg1_0 (rin m c)
    ∗ stg c cc0_stg2_0 (gin m c) ∗ stg c cc0_stg3_0 (outF m))

theorem body_enter : bodyPre m ρ c ⊢ Pre m c 0 := by
  unfold bodyPre
  iintro ⟨HΦ, HO, ⟨%d0, %g0, %h0, Hx⟩, ⟨%d1, %g1, %h1, Hr⟩, ⟨%d2, %g2, %h2, Hg⟩, ⟨%d3, %g3, -, Ho⟩⟩
  have e0 : g0 = xin m c := by rw [h0]; unfold Dat.before; rw [if_pos (fetch0_0 t0_0)]; rfl
  have e1 : g1 = rin m c := by rw [h1]; unfold Dat.before; rw [if_pos (fetch0_1 t0_0)]; rfl
  have e2 : g2 = gin m c := by rw [h2]; unfold Dat.before; rw [if_pos (fetch0_2 t0_0)]; rfl
  subst e0 e1 e2
  unfold Dat.owesAt Pipeline.owesWithin
  icases HO with ⟨%W, -, HO⟩
  iapply (pre_intro m c g3)
  isplitl [HΦ]; · iexact HΦ
  isplitl [HO]
  · unfold debt; iexists W; iexact HO
  isplitl [Hx]; · iexact Hx
  isplitl [Hr]; · iexact Hr
  isplitl [Hg]; · iexact Hg
  iexact Ho

theorem body_leave : Done m c ⊢ bodyPost m ρ c := by
  unfold Done bodyPost Φ₁ scratches debt
  iintro ⟨Hxb, Hv, Hz, Hb, ⟨%W, HO⟩, Hx, Hr, Hg, Ho⟩
  isplitl [Hxb Hv Hz Hb]
  · isplitl [Hxb Hv]
    · isplitl [Hxb] <;> iassumption
    isplitl [Hz] <;> iassumption
  isplitl [HO]
  · unfold Dat.owesAt Pipeline.owesWithin
    iexists W
    isplitr; · ipureintro; exact fun _ _ => Or.inl trivial
    iexact HO
  isplitl [Hx]
  · iexists _; isplitr; · (ipureintro; rfl)
    iexact Hx
  isplitl [Hr]
  · iexists _; isplitr; · (ipureintro; rfl)
    iexact Hr
  isplitl [Hg]
  · iexists _; isplitr; · (ipureintro; rfl)
    iexact Hg
  iexists _; isplitr; · (ipureintro; rfl)
  iexact Ho

set_option maxRecDepth 16384 in
theorem body_obligation : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) (Memref.whole cc0_scratch1) (Memref.isWhole_whole _)
      cc0_scratch2 cc0_scratch3 cc0_scratch4 cc0_scratch5) (fun _ => bodyPost m ρ c)
  exact (body_enter m ρ c).trans (run_body m c (fun _ => bodyPost m ρ c) ((body_done m c).trans (BI.fupd_mono (body_leave m ρ c))))

/-! ## The launch -/

theorem share_eq (w : Fin cfg0.W) : (dats m ρ 0 c).share w = fullShare := by unfold Dat.share; split <;> rfl

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G' start
  iintro ⟨-, Hlev, Hcr, -, Hk, Hlin⟩
  ihave Hc := (creds (F := F) c) $$ Hcr
  imodintro
  isplitl
  · isplitl [Hk Hlev]
    · unfold records; isplitl [Hk]; · unfold knowns; iexact Hk
      iexact Hlev
    isplitl [Hlin] <;> iassumption
  · iempintro

theorem phi0_intro :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratches
  iintro ⟨Hs, -, Hb⟩
  isplitl [Hs]; · iexact Hs
  iexact Hb

theorem phi1_exit :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁ scratches
  iintro ⟨Hb, Hz⟩
  ihave Hz' := (Entails.of_eq (sems0_eq (F := F) c).symm) $$ Hz
  icases Hz' with ⟨Hz, HzB⟩
  isplitl [HzB]; · iexact HzB
  isplitl [Hz]; · iexact Hz
  iexact Hb

theorem above_O₀ : Above 0 (O₀ c) :=
  above_add (above_add ((above_rcv c 0).mono (by decide)) ((above_brc c 0).mono (by decide))) (above_bar c 0)
theorem waits : (levAts L lv : sProp 𝕄) ⊢ Pipeline.cellsWaits cfgs (dats m ρ) () 0 c :=
  Pipeline.cellsWaits_intro cfgs (dats m ρ) () 0 c fun w s t =>
    mayWait c _ 0 (by fin_cases w <;> fin_cases s <;> rfl) (by
      rcases t with ⟨_ | _, ht⟩
      · exact above_O₀ c
      · exact above_zero 0)

end

theorem osem_facts : Pipeline.OwnSemFacts cfg0.spec osem :=
  ⟨fun k => by revert k; decide +kernel, fun i j h => Option.some.inj (csem_injective (a₁ := some i) (a₂ := some j) h), fun k w s h => by
    have e := congrArg Fin.val (SemLoc.dma.inj h)
    have e' : 4 + k.val = ((cfg0.spec w).sem s).val := e
    have : ∀ (w : Fin 4) (s : Fin (cfg0.spec w).nbuf), ((cfg0.spec w).sem s).val < 4 := by decide
    have := this w s
    omega⟩

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 16384 in
/-- From any memory with zero counters, every weakly fair execution of the eight devices ends, with every device's arrays
    as the pipeline leaves them and every counter at zero. -/
theorem run_windows : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ osem_facts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ex m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.AllReduce

end
-- ==== Proof.Result.lean ====
/-
# `Result`: what the arrays hold after the run

The three arguments as they were, and every device's result the whole of `outF`.
-/
module

public import proofs.«01_k».proof.Proof.Launch

@[expose] public section

noncomputable section

namespace Cert.AllReduce

open Cert.KernelIdeal Cert.KernelIdeal.Gen

open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- Contents of an argument staged whole are the argument. -/
theorem xin_eq (c : Dev nD) : xin m c = m ((c.tc : Thread nD τ).loc main_arg0) :=
  Memref.read_access_unit_zero (Elt F) main_arg0
    (funext fun a => by fin_cases a <;> decide) (fun a => by fin_cases a <;> decide) _
theorem rin_eq (c : Dev nD) : rin m c = m ((c.tc : Thread nD τ).loc main_arg1) :=
  Memref.read_access_unit_zero (Elt F) main_arg1
    (funext fun a => by fin_cases a <;> decide) (fun a => by fin_cases a <;> decide) _
theorem gin_eq (c : Dev nD) : gin m c = m ((c.tc : Thread nD τ).loc main_arg2) :=
  Memref.read_access_unit_zero (Elt F) main_arg2
    (funext fun a => by fin_cases a <;> decide) (fun a => by fin_cases a <;> decide) _

/-- The result's window read back after the run. -/
theorem finalA_o (c : Dev nD) : (win0_3.blk (0 : Fin 1)).view.read (Elt F) (finalA m ρ c (3 : Fin 4)) = outF m := by
  unfold finalA
  rw [show cfg0.N = ((0 : Fin 1) : Fin cfg0.N).val + 1 from rfl, (dats m ρ 0 c).arrAt_succ (3 : Fin 4) (0 : Fin 1)]
  rw [show (cfg0.win (3 : Fin 4)).flush (0 : Fin 1) = true from by decide, if_pos rfl]
  exact View.read_write_univ _ _

theorem finalA_out (c : Dev nD) : finalA m ρ c (3 : Fin 4) = outF m :=
  (Memref.read_access_unit_zero (Elt F) main_v1
    (funext fun a => by fin_cases a <;> decide) (fun a => by fin_cases a <;> decide) _).symm.trans (finalA_o m ρ c)

/-- From any memory with zero counters, every weakly fair execution of the eight devices ends with the arguments as they
    were, every device's result at `outF`, and every counter at zero. -/
theorem run_main : θ_run defs (onTc (τ := τ) (main (F := F))) ⟨m, fun _ => 0, ρ⟩ (fun r =>
    (∀ c : Dev nD, r.2.mem ((c.tc : Thread nD τ).loc main_v1) = outF m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  (θ_run defs _ _).mono (fun r h =>
    ⟨fun c => ⟨(h.1 c (3 : Fin 4)).trans (finalA_out m ρ c),
      (h.1 c (0 : Fin 4)).trans ((dats m ρ 0 c).arrAt_in (0 : Fin 4) rfl _),
      (h.1 c (1 : Fin 4)).trans ((dats m ρ 0 c).arrAt_in (1 : Fin 4) rfl _),
      (h.1 c (2 : Fin 4)).trans ((dats m ρ 0 c).arrAt_in (2 : Fin 4) rfl _)⟩, h.2⟩) (run_windows m ρ)

end Cert.AllReduce

end
-- ==== Proof.RefRun.lean ====
/-
# `RefRun`: the run of the reference

The reference is a straight line of array operations on one device: what its result holds is read off the line.
-/
module

public import Idealize.ShloMosaic.Lib.StableHlo.Run
public import Idealize.ShloMosaic.Lib.Quiescent
public import proofs.«01_k».proof.Proof.Gen.ReferenceIdeal

@[expose] public section

noncomputable section

namespace Cert.RefRun

open Cert.ReferenceIdeal Cert.ReferenceIdeal.Gen
open Idealize.ShloMosaic Idealize.ShloMosaic.TcCoe Idealize.ShloMosaic.StableHlo Idealize.SL.Sem

variable {F : FTy → Type} [FloatOps F]

/-- The sum over the devices and the residual, in the wide format. -/
def total (x : FVec F S8x1024x1024 .bf16) (r : FVec F S1024x1024 .bf16) : FVec F S1024x1024 .f32 :=
  addf (Host.reduceAdd (extf .f32 x bitsLt_bf16_f32) (constant S_ .f32 0x00000000#32) reducesTo_S8x1024x1024_S1024x1024_d0 h_S_)
    (extf .f32 r bitsLt_bf16_f32)

/-- The mean of the squares of each row, plus the small constant. -/
def spread (y : FVec F S1024x1024 .f32) : FVec F S1024x1 .f32 :=
  addf (Host.divf
      (broadcastInDim S1024x1 ![0] bcast_S1024_S1024x1_0
        (Host.reduceAdd (mulf y y) (constant S_ .f32 0x00000000#32) reducesTo_S1024x1024_S1024_d1 h_S_))
      (broadcastInDim S1024x1 ![] bcast_S_S1024x1 (constant S_ .f32 0x44800000#32)))
    (broadcastInDim S1024x1 ![] bcast_S_S1024x1 (constant S_ .f32 0x358637BD#32))

/-- The reference's result from its three arguments. -/
def refOut (x : FVec F S8x1024x1024 .bf16) (r : FVec F S1024x1024 .bf16) (g : FVec F S1024 .bf16) : FVec F S1024x1024 .bf16 :=
  truncf .bf16 (mulf
    (Host.divf (total x r) (broadcastInDim S1024x1024 ![0, 1] bcast_S1024x1_S1024x1024_0_1 (Host.sqrt (spread (total x r)))))
    (broadcastInDim S1024x1024 ![0, 1] bcast_S1x1024_S1024x1024_0_1
      (broadcastInDim S1x1024 ![1] bcast_S1024_S1x1024_1 (extf .f32 g bitsLt_bf16_f32)))) bitsLt_bf16_f32

/-- The operations, in order. -/
abbrev ops : List (HloOp τ sig (Elt F)) :=
  [ unary main_arg0 main_v0 (extf .f32 · bitsLt_bf16_f32),
    unary main_arg1 main_v1 (extf .f32 · bitsLt_bf16_f32),
    unary main_arg2 main_v2 (extf .f32 · bitsLt_bf16_f32),
    nullary main_cst (constant S_ .f32 0x00000000#32),
    binary main_v0 main_cst main_v3 (fun x v => Host.reduceAdd x v reducesTo_S8x1024x1024_S1024x1024_d0 h_S_),
    binary main_v3 main_v1 main_v4 addf,
    binary main_v4 main_v4 main_v5 mulf,
    nullary main_cst_0 (constant S_ .f32 0x00000000#32),
    binary main_v5 main_cst_0 main_v6 (fun x v => Host.reduceAdd x v reducesTo_S1024x1024_S1024_d1 h_S_),
    unary main_v6 main_v7 (broadcastInDim S1024x1 ![0] bcast_S1024_S1024x1_0),
    nullary main_cst_1 (constant S_ .f32 0x44800000#32),
    unary main_cst_1 main_v8 (broadcastInDim S1024x1 ![] bcast_S_S1024x1),
    binary main_v7 main_v8 main_v9 Host.divf,
    nullary main_cst_2 (constant S_ .f32 0x358637BD#32),
    unary main_cst_2 main_v10 (broadcastInDim S1024x1 ![] bcast_S_S1024x1),
    binary main_v9 main_v10 main_v11 addf,
    unary main_v11 main_v12 Host.sqrt,
    unary main_v12 main_v13 (broadcastInDim S1024x1024 ![0, 1] bcast_S1024x1_S1024x1024_0_1),
    binary main_v4 main_v13 main_v14 Host.divf,
    unary main_v2 main_v15 (broadcastInDim S1x1024 ![1] bcast_S1024_S1x1024_1),
    unary main_v15 main_v16 (broadcastInDim S1024x1024 ![0, 1] bcast_S1x1024_S1024x1024_0_1),
    binary main_v14 main_v16 main_v17 mulf,
    unary main_v17 main_v18 (truncf .bf16 · bitsLt_bf16_f32) ]

theorem main_eq (c : Dev nD) : main (F := F) c = seq ops := rfl

theorem out_eq (V : Valuation τ sig (Elt F)) : after ops V (main_v18 : DevRef τ sig)
    = refOut (V (main_arg0 : DevRef τ sig)) (V (main_arg1 : DevRef τ sig)) (V (main_arg2 : DevRef τ sig)) := by
  after_results
  rfl

theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results

theorem no_scoped_refs : (Finset.univ.filter fun b : Ref sig .tc => b.isScoped) = ∅ := by decide
theorem no_scoped_sems : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., unary_bufs_sub .., nullary_bufs_sub .., binary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub ..⟩

/-- From any memory with zero counters, every weakly fair execution of the reference ends with its result at `refOut` of
    its arguments, the arguments as they were, and every counter at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem ((c.tc : Thread nD τ).loc main_v18)
          = refOut (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run defs _ _).mono (fun r h =>
    ⟨fun c => ⟨(h c main_v18).trans (out_eq _), (h c main_arg0).trans (arg0_eq _), (h c main_arg1).trans (arg1_eq _),
      (h c main_arg2).trans (arg2_eq _)⟩, sem_eq_zero_of_no_sems rfl r.2⟩)
    (run_seq no_scoped_refs no_scoped_sems defs main (fun _ => ops) main_eq (fun _ => ops_sub) m ρ)

end Cert.RefRun

end
-- ==== Proof.Value.lean ====
/-
# `Value`: the kernel's result is the reference's

Over the extended reals: addition is commutative and associative, so the order in which a row's eight addends and its
residual are summed does not matter, and the mean of the squares plus a positive constant is positive, where dividing by
the square root is multiplying by its inverse.
-/
module

public import Idealize.ShloMosaic.Lib.Pointwise
public import Idealize.ShloMosaic.Lib.Layout
public import proofs.«01_k».proof.Proof.Result
public import proofs.«01_k».proof.Proof.RefRun

@[expose] public section

noncomputable section

namespace Cert.Value

open Idealize.ShloMosaic Idealize.ShloMosaic.TcCoe

/-! ### Extended reals -/

theorem mul_self_nonneg (a : EReal) : 0 ≤ a * a := by
  induction a with
  | bot => simp
  | top => simp
  | coe r => exact_mod_cast _root_.mul_self_nonneg r

/-- Dividing by the square root of a positive number is multiplying by the inverse of the root. -/
theorem div_sqrt (a : EReal) {v : EReal} (hv : 0 < v) : Ideal.div a (Ideal.sqrt v) = a * Ideal.rsqrt v := by
  induction v with
  | bot => exact absurd hv (by simp)
  | top => simp [Ideal.div]
  | coe r =>
    have hr : 0 < r := by exact_mod_cast hv
    have hs : Real.sqrt r ≠ 0 := (Real.sqrt_pos.mpr hr).ne'
    rw [Ideal.sqrt_coe, Ideal.rsqrt_coe, if_neg hr.not_gt, if_neg hr.not_gt, if_neg hr.ne', Ideal.div,
      if_neg (by exact_mod_cast hs), EReal.coe_inv]

abbrev len : EReal := Ideal.ofBits .f32 0x44800000#32
abbrev eps : EReal := Ideal.ofBits .f32 0x358637BD#32

theorem eps_pos : 0 < eps := by
  unfold eps
  simp [Ideal.ofBits, Ideal.ieee]
  exact EReal.mul_pos (by norm_num) (by exact_mod_cast (by positivity : (0 : ℝ) < (2 ^ 43)⁻¹))

theorem len_pos : 0 < len := by
  unfold len
  simp [Ideal.ofBits, Ideal.ieee]
  exact EReal.mul_pos (by norm_num) (by exact_mod_cast (by positivity : (0 : ℝ) < (2 ^ 13)⁻¹))

theorem spread_pos {ι : Type} [Fintype ι] (f : ι → EReal) : 0 < Ideal.div (∑ k, f k * f k) len + eps := by
  have h : 0 ≤ Ideal.div (∑ k, f k * f k) len := by
    rw [Ideal.div, if_neg len_pos.ne']
    exact mul_nonneg (Finset.sum_nonneg fun k _ => mul_self_nonneg _) (EReal.inv_nonneg_of_nonneg len_pos.le)
  exact lt_of_lt_of_le eps_pos (by simpa using add_le_add_left h eps)

/-! ### The kernel's block at an entry -/

section
open Cert.KernelIdeal Cert.KernelIdeal.Gen Cert.AllReduce

/-- The sum of a row's entries in the kernel's order. -/
def acc (x : Vec Ideal S1x32x1024 .bf16) (r : Vec Ideal S32x1024 .bf16) (v : Fin 7 → Vec Ideal S1x32x1024 .bf16)
    (a : Fin 32) (b : Fin 1024) : EReal :=
  x (ix3 0 a b) + r (ix2 a b) + v 0 (ix3 0 a b) + v 1 (ix3 0 a b) + v 2 (ix3 0 a b) + v 3 (ix3 0 a b) + v 4 (ix3 0 a b)
    + v 5 (ix3 0 a b) + v 6 (ix3 0 a b)

theorem norm_apply (g : Vec Ideal S1024 .bf16) (x : Vec Ideal S1x32x1024 .bf16) (r : Vec Ideal S32x1024 .bf16)
    (v : Fin 7 → Vec Ideal S1x32x1024 .bf16) (a : Fin 32) (b : Fin 1024) :
    AllReduce.norm g x r v (ix2 a b)
      = acc x r v a b * Ideal.rsqrt (Ideal.div (∑ k, acc x r v a k * acc x r v a k) len + eps) * g (ix1 b) := by
  unfold AllReduce.norm acc
  unfold_payloads
  pointwise

theorem pay1_apply (x : Vec Ideal S1x1024x1024 .bf16) (a b : Fin 1024) : k0_pay1 x (ix2 a b) = x (ix3 0 a b) := by
  unfold_payloads
  pointwise

end

/-! ### The reference at an entry -/

section
open Cert.ReferenceIdeal Cert.ReferenceIdeal.Gen Cert.RefRun

theorem total_apply (x : FVec Ideal S8x1024x1024 .bf16) (r : FVec Ideal S1024x1024 .bf16) (a b : Fin 1024) :
    total x r (ix2 a b) = (∑ d : Fin 8, x (ix3 d a b)) + r (ix2 a b) := by
  unfold total
  pointwise

theorem refOut_apply (x : FVec Ideal S8x1024x1024 .bf16) (r : FVec Ideal S1024x1024 .bf16) (g : FVec Ideal S1024 .bf16)
    (a b : Fin 1024) :
    refOut x r g (ix2 a b)
      = Ideal.div (total x r (ix2 a b))
          (Ideal.sqrt (Ideal.div (∑ k : Fin 1024, total x r (ix2 a k) * total x r (ix2 a k)) len + eps)) * g (ix1 b) := by
  unfold refOut spread
  generalize total x r = y
  pointwise

end

/-! ### The two agree -/

section
open Cert.KernelIdeal Cert.AllReduce

/-- A sum over the devices is the own part and the parts of the seven others, however these are numbered. -/
theorem sum_devices (f : Fin 8 → EReal) (c : Dev nD) :
    ∑ d : Fin 8, f d = f c + f (nb c 0) + f (nb c 1) + f (nb c 2) + f (nb c 3) + f (nb c 4) + f (nb c 5) + f (nb c 6) := by
  have e : ∀ c : Fin 8, (∑ d : Fin 8, f d) = ∑ k : Fin 8, f (c + k) := fun c => (Equiv.sum_comp (Equiv.addLeft c) f).symm
  have h : ∀ k : Fin 7, nb c k = (c : Fin 8) + k.succ := fun k => by
    revert c k; decide
  rw [e c, Fin.sum_univ_eight, h, h, h, h, h, h, h, show (c : Fin 8) + 0 = c from add_zero (c : Fin 8)]
  rfl

variable (m : (ℓ : Loc nD τ sig) → Buf (Elt Ideal) ℓ)
variable (x : FVec Ideal Cert.ReferenceIdeal.S8x1024x1024 .bf16) (r : FVec Ideal S1024x1024 .bf16) (g : FVec Ideal S1024 .bf16)

/-- The kernel's sum is the reference's. -/
theorem acc_eq (hx : ∀ (c : Dev nD) (a b : Fin 1024), xin m c (ix3 0 a b) = x (ix3 c a b)) (hr : ∀ c, rin m c = r)
    (c : Dev nD) (w : Fin 4) (a : Fin 32) (b : Fin 1024) :
    acc (xrow m c w) (rrow m c w) (vrow m c w) a b = RefRun.total x r (ix2 (row c w a) b) := by
  have hv : ∀ k, vrow m c w k (ix3 0 a b) = x (ix3 (nb c k) (row c w a) b) := fun k =>
    (pay1_apply (xin m (nb c k)) (row c w a) b).trans (hx (nb c k) (row c w a) b)
  have h0 : xrow m c w (ix3 0 a b) = x (ix3 c (row c w a) b) := hx c (row c w a) b
  have h1 : rrow m c w (ix2 a b) = r (ix2 (row c w a) b) := congrFun (hr c) _
  rw [total_apply, sum_devices (fun d => x (ix3 d (row c w a) b)) c, acc, hv, hv, hv, hv, hv, hv, hv, h0, h1]
  ac_rfl

theorem yBlk_eq (hx : ∀ (c : Dev nD) (a b : Fin 1024), xin m c (ix3 0 a b) = x (ix3 c a b)) (hr : ∀ c, rin m c = r)
    (hg : ∀ c, gin m c = g) (c : Dev nD) (w : Fin 4) (a : Fin 32) (b : Fin 1024) :
    yBlk m c w (ix2 a b) = RefRun.refOut x r g (ix2 (row c w a) b) := by
  rw [yBlk, norm_apply, refOut_apply, div_sqrt _ (spread_pos fun k => RefRun.total x r (ix2 (row c w a) k)), hg]
  simp only [acc_eq m x r hx hr c w a]

theorem outF_eq (hx : ∀ (c : Dev nD) (a b : Fin 1024), xin m c (ix3 0 a b) = x (ix3 c a b)) (hr : ∀ c, rin m c = r)
    (hg : ∀ c, gin m c = g) : outF m = RefRun.refOut (F := Ideal) x r g := by
  funext i
  have hi : row (rowOwner i) (rowBlock i) ⟨(i 0).val % 32, Nat.mod_lt _ (by decide)⟩ = i 0 := by
    apply Fin.ext
    show 128 * ((i 0).val / 128) + 32 * ((i 0).val / 32 % 4) + (i 0).val % 32 = (i 0).val
    omega
  refine (yBlk_eq m x r g hx hr hg (rowOwner i) (rowBlock i) ⟨(i 0).val % 32, Nat.mod_lt _ (by decide)⟩ (i 1)).trans ?_
  rw [hi]
  congr 1
  funext a
  fin_cases a <;> rfl

/-- The launch's arguments, laid out over the devices as the claim says, give the reference's result. -/
theorem out_eq_ref (m' : (ℓ : Loc Cert.ReferenceIdeal.nD Cert.ReferenceIdeal.τ Cert.ReferenceIdeal.sig) → Buf (Elt Ideal) ℓ)
    (h : ∀ c : Dev nD,
      m ((c.tc : Thread nD τ).loc main_arg0) = Layout.block ⟨3, ![1, 1024, 1024]⟩ ⟨3, ![8, 1024, 1024]⟩ 0 8 c
        (m' (((0 : Dev Cert.ReferenceIdeal.nD).tc : Thread Cert.ReferenceIdeal.nD Cert.ReferenceIdeal.τ).loc Cert.ReferenceIdeal.main_arg0))
      ∧ m ((c.tc : Thread nD τ).loc main_arg1)
        = m' (((0 : Dev Cert.ReferenceIdeal.nD).tc : Thread Cert.ReferenceIdeal.nD Cert.ReferenceIdeal.τ).loc Cert.ReferenceIdeal.main_arg1)
      ∧ m ((c.tc : Thread nD τ).loc main_arg2)
        = m' (((0 : Dev Cert.ReferenceIdeal.nD).tc : Thread Cert.ReferenceIdeal.nD Cert.ReferenceIdeal.τ).loc Cert.ReferenceIdeal.main_arg2)) :
    outF m = RefRun.refOut (F := Ideal)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)) :=
  outF_eq m _ _ _
    (fun c a b => by
      rw [xin_eq, (h c).1, Layout.block_apply]
      congr 1
      funext d
      apply Fin.ext
      fin_cases d
      · show c.val * 1 + 0 = c.val; omega
      · rfl
      · rfl)
    (fun c => (rin_eq m c).trans (h c).2.1) (fun c => (gin_eq m c).trans (h c).2.2)

end

end Cert.Value

end
-- ==== Proof.lean ====
/- The proof of the claims: the three runs, each by any value of its floats, and the equality of the two results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import Idealize.ShloMosaic.Adequacy
public import Idealize.ShloMosaic.Init

@[expose] public section

noncomputable section

namespace Cert.Proof

open Idealize.ShloMosaic Idealize.SL.Sem Cert.Kernel

/-- The run without the result, over any floats. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run Cert.KernelIdeal.defs (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h => ⟨fun c => (h.1 c).2, h.2⟩) (Cert.AllReduce.run_main m ρ)

theorem frame_ideal : Cert.quiescent_KernelIdeal := fun m ρ _ => frame_any m ρ

set_option maxRecDepth 10000 in
set_option smartUnfolding false in
/-- The kernel as written and the one printed for the extended reals have the same text. -/
theorem frame_kernel : Cert.quiescent_Kernel := fun m ρ _ => frame_any (F := Bits) m ρ

theorem frame_reference : Cert.quiescent_ReferenceIdeal := fun m ρ _ =>
  (θ_run Cert.ReferenceIdeal.defs _ _).mono (fun _ h => ⟨fun c => (h.1 c).2, h.2⟩) (Cert.RefRun.run_main m ρ)

/-- Every device's result is the reference's. -/
theorem value : Cert.algebraic_KernelIdeal_ReferenceIdeal := fun m ρ m' ρ' _ hm =>
  ⟨_, (θ_run Cert.KernelIdeal.defs _ _).mono
      (fun _ h c => ⟨(h.1 c).1.trans (Cert.Value.out_eq_ref m m' hm), (h.1 c).2⟩) (Cert.AllReduce.run_main m ρ),
    (θ_run Cert.ReferenceIdeal.defs _ _).mono (fun _ h => h.1 0) (Cert.RefRun.run_main m' ρ')⟩

theorem claim : Cert.Claim := ⟨Cert.Kernel.Gen.facts, Cert.KernelIdeal.Gen.facts, Cert.ReferenceIdeal.Gen.facts,
  frame_kernel, frame_ideal, frame_reference, trivial, value⟩

end Cert.Proof

end
